-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8192x8192 : Shape := ⟨2, ![8192, 8192]⟩
abbrev S8192 : Shape := ⟨1, ![8192]⟩
abbrev S4096 : Shape := ⟨1, ![4096]⟩
abbrev S2048 : Shape := ⟨1, ![2048]⟩
abbrev S_ : Shape := ⟨0, ![]⟩
abbrev S4096x2 : Shape := ⟨2, ![4096, 2]⟩
abbrev S4096x1 : Shape := ⟨2, ![4096, 1]⟩

class Facts : Prop where
  bcast_S_S4096 : S_.BroadcastsInDim S4096 (![] : Fin 0 → Fin S4096.rank)
  reducesTo_S4096_S_d0 : S4096.ReducesTo [0] S_
  h_S_ : 0 < S_.numel
  shapeCasts_S8192_S4096x2 : S8192.ShapeCasts S4096x2
  slices_S4096x2_S4096x1_0_0 : S4096x2.Slices ![0, 0] S4096x1
  shapeCasts_S4096x1_S4096 : S4096x1.ShapeCasts S4096
  slices_S4096x2_S4096x1_0_1 : S4096x2.Slices ![0, 1] S4096x1

variable [Facts]

def fn {F : FTy → Type} [FloatOps F] (main_arg0 : FVec F S8192x8192 .f32) (main_arg1 : IVec S8192 1) (main_arg2 : IVec S4096 32) (main_arg3 : FVec F S2048 .f32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 2048#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : IVec S4096x2 1 := shapeCast S4096x2 main_arg1 shapeCasts_S8192_S4096x2
  let main_v7 : IVec S4096x1 1 := (extractStridedSlice S4096x1 ![0, 0] · slices_S4096x2_S4096x1_0_0) main_v6
  let main_v8 : IVec S4096 1 := shapeCast S4096 main_v7 shapeCasts_S4096x1_S4096
  let main_v9 : IVec S4096x2 1 := shapeCast S4096x2 main_arg1 shapeCasts_S8192_S4096x2
  let main_v10 : IVec S4096x1 1 := (extractStridedSlice S4096x1 ![0, 1] · slices_S4096x2_S4096x1_0_1) main_v9
  let main_v11 : IVec S4096 1 := shapeCast S4096 main_v10 shapeCasts_S4096x1_S4096
  let main_v12 : IVec S4096 1 := cmpi .ne main_v8 main_v11
  let main_c_2 : IVec S_ 1 := constantI S_ 1 1#1
  let main_v13 : IVec S_ 1 := (fun x v => Host.reduce IntOp.andi x v reducesTo_S4096_S_d0 h_S_) main_v12 main_c_2
  let main_v14 : IVec S_ 1 := andi main_v5 main_v13
  main_v14
-- ==== Kernel.lean ====
abbrev S8192x8192 : Shape := ⟨2, ![8192, 8192]⟩
abbrev S8192 : Shape := ⟨1, ![8192]⟩
abbrev S4096 : Shape := ⟨1, ![4096]⟩
abbrev S2048 : Shape := ⟨1, ![2048]⟩
abbrev S128 : Shape := ⟨1, ![128]⟩
abbrev S256 : Shape := ⟨1, ![256]⟩
abbrev S_ : Shape := ⟨0, ![]⟩
abbrev S16 : Shape := ⟨1, ![16]⟩
abbrev S1x8192 : Shape := ⟨2, ![1, 8192]⟩
abbrev S256x8192 : Shape := ⟨2, ![256, 8192]⟩

abbrev nBuf : Table → Nat
  | .hbm => 9
  | .local .tc .vmem => 6
  | .local .scVector .vmem => 3
  | _ => 0

abbrev bufTy : (tb : Table) → Fin (nBuf tb) → BufTy
  | .hbm, ⟨0, _⟩ => ⟨S8192x8192, .f32⟩
  | .hbm, ⟨1, _⟩ => ⟨S8192, .i1⟩
  | .hbm, ⟨2, _⟩ => ⟨S4096, .i32⟩
  | .hbm, ⟨3, _⟩ => ⟨S2048, .f32⟩
  | .hbm, ⟨4, _⟩ => ⟨S8192, .f32⟩
  | .hbm, ⟨5, _⟩ => ⟨S8192, .i32⟩
  | .hbm, ⟨6, _⟩ => ⟨S1x8192, .i32⟩
  | .hbm, ⟨7, _⟩ => ⟨S1x8192, .f32⟩
  | .hbm, ⟨8, _⟩ => ⟨S8192x8192, .f32⟩
  | .local .tc .vmem, ⟨0, _⟩ => ⟨S1x8192, .f32⟩
  | .local .tc .vmem, ⟨1, _⟩ => ⟨S1x8192, .i32⟩
  | .local .tc .vmem, ⟨2, _⟩ => ⟨S256x8192, .f32⟩
  | .local .tc .vmem, ⟨3, _⟩ => ⟨S256x8192, .f32⟩
  | .local .tc .vmem, ⟨4, _⟩ => ⟨S256x8192, .f32⟩
  | .local .tc .vmem, ⟨5, _⟩ => ⟨S256x8192, .f32⟩
  | .local .scVector .vmem, ⟨0, _⟩ => ⟨S2048, .f32⟩
  | .local .scVector .vmem, ⟨1, _⟩ => ⟨S128, .i32⟩
  | .local .scVector .vmem, ⟨2, _⟩ => ⟨S256, .f32⟩
  | _, _ => ⟨S8192x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg3_scv : Ref sig .scVector := ⟨.hbm, 3, rfl⟩
abbrev main_arg2_scv : Ref sig .scVector := ⟨.hbm, 2, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]

def k0_chk1 (v3 : IVec S16 32) : Prop :=
  (∀ a x, ((![v3] : Fin 1 → IVec S16 32) a x).toNat < S2048.size a)
theorem k0_idx1_inb : ∀ (v3 : IVec S16 32) (k0_hw1 : k0_chk1 v3), ∀ a x, ((![v3] : Fin 1 → IVec S16 32) a x).toNat < S2048.size a := fun v3 k0_hw1 => k0_hw1

def k0_chk2 (v9 : IVec S16 32) : Prop :=
  (∀ a x, ((![v9] : Fin 1 → IVec S16 32) a x).toNat < S256.size a)
theorem k0_idx2_inb : ∀ (v9 : IVec S16 32) (k0_hw2 : k0_chk2 v9), ∀ a x, ((![v9] : Fin 1 → IVec S16 32) a x).toNat < S256.size a := fun v9 k0_hw2 => k0_hw2

def k0_chk3 (v11 : IVec S16 32) : Prop :=
  (∀ a x, ((![v11] : Fin 1 → IVec S16 32) a x).toNat < S256.size a)
theorem k0_idx3_inb : ∀ (v11 : IVec S16 32) (k0_hw3 : k0_chk3 v11), ∀ a x, ((![v11] : Fin 1 → IVec S16 32) a x).toNat < S256.size a := fun v11 k0_hw3 => k0_hw3

def k0_chk4 (v12 : IVec S16 32) : Prop :=
  (∀ a x, ((![v12] : Fin 1 → IVec S16 32) a x).toNat < S2048.size a)
theorem k0_idx4_inb : ∀ (v12 : IVec S16 32) (k0_hw4 : k0_chk4 v12), ∀ a x, ((![v12] : Fin 1 → IVec S16 32) a x).toNat < S2048.size a := fun v12 k0_hw4 => k0_hw4

def k0_chk5 (v18 : IVec S16 32) : Prop :=
  (∀ a x, ((![v18] : Fin 1 → IVec S16 32) a x).toNat < S256.size a)
theorem k0_idx5_inb : ∀ (v18 : IVec S16 32) (k0_hw5 : k0_chk5 v18), ∀ a x, ((![v18] : Fin 1 → IVec S16 32) a x).toNat < S256.size a := fun v18 k0_hw5 => k0_hw5

def k0_chk6 (v20 : IVec S16 32) : Prop :=
  (∀ a x, ((![v20] : Fin 1 → IVec S16 32) a x).toNat < S256.size a)
theorem k0_idx6_inb : ∀ (v20 : IVec S16 32) (k0_hw6 : k0_chk6 v20), ∀ a x, ((![v20] : Fin 1 → IVec S16 32) a x).toNat < S256.size a := fun v20 k0_hw6 => k0_hw6

def k0_chk7 (v21 : IVec S16 32) : Prop :=
  (∀ a x, ((![v21] : Fin 1 → IVec S16 32) a x).toNat < S2048.size a)
theorem k0_idx7_inb : ∀ (v21 : IVec S16 32) (k0_hw7 : k0_chk7 v21), ∀ a x, ((![v21] : Fin 1 → IVec S16 32) a x).toNat < S2048.size a := fun v21 k0_hw7 => k0_hw7

def k0_chk8 (v27 : IVec S16 32) : Prop :=
  (∀ a x, ((![v27] : Fin 1 → IVec S16 32) a x).toNat < S256.size a)
theorem k0_idx8_inb : ∀ (v27 : IVec S16 32) (k0_hw8 : k0_chk8 v27), ∀ a x, ((![v27] : Fin 1 → IVec S16 32) a x).toNat < S256.size a := fun v27 k0_hw8 => k0_hw8

def k0_chk9 (v29 : IVec S16 32) : Prop :=
  (∀ a x, ((![v29] : Fin 1 → IVec S16 32) a x).toNat < S256.size a)
theorem k0_idx9_inb : ∀ (v29 : IVec S16 32) (k0_hw9 : k0_chk9 v29), ∀ a x, ((![v29] : Fin 1 → IVec S16 32) a x).toNat < S256.size a := fun v29 k0_hw9 => k0_hw9

def k0_chk10 (v30 : IVec S16 32) : Prop :=
  (∀ a x, ((![v30] : Fin 1 → IVec S16 32) a x).toNat < S2048.size a)
theorem k0_idx10_inb : ∀ (v30 : IVec S16 32) (k0_hw10 : k0_chk10 v30), ∀ a x, ((![v30] : Fin 1 → IVec S16 32) a x).toNat < S2048.size a := fun v30 k0_hw10 => k0_hw10

def k0_chk11 (v36 : IVec S16 32) : Prop :=
  (∀ a x, ((![v36] : Fin 1 → IVec S16 32) a x).toNat < S256.size a)
theorem k0_idx11_inb : ∀ (v36 : IVec S16 32) (k0_hw11 : k0_chk11 v36), ∀ a x, ((![v36] : Fin 1 → IVec S16 32) a x).toNat < S256.size a := fun v36 k0_hw11 => k0_hw11

def k0_chk12 (v38 : IVec S16 32) : Prop :=
  (∀ a x, ((![v38] : Fin 1 → IVec S16 32) a x).toNat < S256.size a)
theorem k0_idx12_inb : ∀ (v38 : IVec S16 32) (k0_hw12 : k0_chk12 v38), ∀ a x, ((![v38] : Fin 1 → IVec S16 32) a x).toNat < S256.size a := fun v38 k0_hw12 => k0_hw12

def k0_chk13 (v39 : IVec S16 32) : Prop :=
  (∀ a x, ((![v39] : Fin 1 → IVec S16 32) a x).toNat < S2048.size a)
theorem k0_idx13_inb : ∀ (v39 : IVec S16 32) (k0_hw13 : k0_chk13 v39), ∀ a x, ((![v39] : Fin 1 → IVec S16 32) a x).toNat < S2048.size a := fun v39 k0_hw13 => k0_hw13

def k0_chk14 (v45 : IVec S16 32) : Prop :=
  (∀ a x, ((![v45] : Fin 1 → IVec S16 32) a x).toNat < S256.size a)
theorem k0_idx14_inb : ∀ (v45 : IVec S16 32) (k0_hw14 : k0_chk14 v45), ∀ a x, ((![v45] : Fin 1 → IVec S16 32) a x).toNat < S256.size a := fun v45 k0_hw14 => k0_hw14

def k0_chk15 (v47 : IVec S16 32) : Prop :=
  (∀ a x, ((![v47] : Fin 1 → IVec S16 32) a x).toNat < S256.size a)
theorem k0_idx15_inb : ∀ (v47 : IVec S16 32) (k0_hw15 : k0_chk15 v47), ∀ a x, ((![v47] : Fin 1 → IVec S16 32) a x).toNat < S256.size a := fun v47 k0_hw15 => k0_hw15

def k0_chk16 (v48 : IVec S16 32) : Prop :=
  (∀ a x, ((![v48] : Fin 1 → IVec S16 32) a x).toNat < S2048.size a)
theorem k0_idx16_inb : ∀ (v48 : IVec S16 32) (k0_hw16 : k0_chk16 v48), ∀ a x, ((![v48] : Fin 1 → IVec S16 32) a x).toNat < S2048.size a := fun v48 k0_hw16 => k0_hw16

def k0_chk17 (v54 : IVec S16 32) : Prop :=
  (∀ a x, ((![v54] : Fin 1 → IVec S16 32) a x).toNat < S256.size a)
theorem k0_idx17_inb : ∀ (v54 : IVec S16 32) (k0_hw17 : k0_chk17 v54), ∀ a x, ((![v54] : Fin 1 → IVec S16 32) a x).toNat < S256.size a := fun v54 k0_hw17 => k0_hw17

def k0_chk18 (v56 : IVec S16 32) : Prop :=
  (∀ a x, ((![v56] : Fin 1 → IVec S16 32) a x).toNat < S256.size a)
theorem k0_idx18_inb : ∀ (v56 : IVec S16 32) (k0_hw18 : k0_chk18 v56), ∀ a x, ((![v56] : Fin 1 → IVec S16 32) a x).toNat < S256.size a := fun v56 k0_hw18 => k0_hw18

def k0_chk19 (v57 : IVec S16 32) : Prop :=
  (∀ a x, ((![v57] : Fin 1 → IVec S16 32) a x).toNat < S2048.size a)
theorem k0_idx19_inb : ∀ (v57 : IVec S16 32) (k0_hw19 : k0_chk19 v57), ∀ a x, ((![v57] : Fin 1 → IVec S16 32) a x).toNat < S2048.size a := fun v57 k0_hw19 => k0_hw19

def k0_chk20 (v63 : IVec S16 32) : Prop :=
  (∀ a x, ((![v63] : Fin 1 → IVec S16 32) a x).toNat < S256.size a)
theorem k0_idx20_inb : ∀ (v63 : IVec S16 32) (k0_hw20 : k0_chk20 v63), ∀ a x, ((![v63] : Fin 1 → IVec S16 32) a x).toNat < S256.size a := fun v63 k0_hw20 => k0_hw20

def k0_chk21 (v65 : IVec S16 32) : Prop :=
  (∀ a x, ((![v65] : Fin 1 → IVec S16 32) a x).toNat < S256.size a)
theorem k0_idx21_inb : ∀ (v65 : IVec S16 32) (k0_hw21 : k0_chk21 v65), ∀ a x, ((![v65] : Fin 1 → IVec S16 32) a x).toNat < S256.size a := fun v65 k0_hw21 => k0_hw21

def k0_chk22 (v66 : IVec S16 32) : Prop :=
  (∀ a x, ((![v66] : Fin 1 → IVec S16 32) a x).toNat < S2048.size a)
theorem k0_idx22_inb : ∀ (v66 : IVec S16 32) (k0_hw22 : k0_chk22 v66), ∀ a x, ((![v66] : Fin 1 → IVec S16 32) a x).toNat < S2048.size a := fun v66 k0_hw22 => k0_hw22

def k0_chk23 (v72 : IVec S16 32) : Prop :=
  (∀ a x, ((![v72] : Fin 1 → IVec S16 32) a x).toNat < S256.size a)
theorem k0_idx23_inb : ∀ (v72 : IVec S16 32) (k0_hw23 : k0_chk23 v72), ∀ a x, ((![v72] : Fin 1 → IVec S16 32) a x).toNat < S256.size a := fun v72 k0_hw23 => k0_hw23

def k0_chk24 (v74 : IVec S16 32) : Prop :=
  (∀ a x, ((![v74] : Fin 1 → IVec S16 32) a x).toNat < S256.size a)
theorem k0_idx24_inb : ∀ (v74 : IVec S16 32) (k0_hw24 : k0_chk24 v74), ∀ a x, ((![v74] : Fin 1 → IVec S16 32) a x).toNat < S256.size a := fun v74 k0_hw24 => k0_hw24
def k0_off2 (i : grid0.Coords) : Fin 1 → Nat :=
  let c2_i32_15 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v75 : BitVec 32 := Scalar.muli c2_i32_15 v2
  ![v75.toNat]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x8192 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x8192 : Shape := ⟨2, ![8192, 8192]⟩
abbrev S8192 : Shape := ⟨1, ![8192]⟩
abbrev S4096 : Shape := ⟨1, ![4096]⟩
abbrev S2048 : Shape := ⟨1, ![2048]⟩
abbrev S_ : Shape := ⟨0, ![]⟩
abbrev S8192x1 : Shape := ⟨2, ![8192, 1]⟩
abbrev S1 : Shape := ⟨1, ![1]⟩
abbrev S4096x1 : Shape := ⟨2, ![4096, 1]⟩
abbrev S1x1 : Shape := ⟨2, ![1, 1]⟩
abbrev S1x4096 : Shape := ⟨2, ![1, 4096]⟩
abbrev S8192x4096 : Shape := ⟨2, ![8192, 4096]⟩

abbrev nBuf : Space → Nat
  | .hbm => 108
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i1⟩
  | .hbm, ⟨2, _⟩ => ⟨S4096, .i32⟩
  | .hbm, ⟨3, _⟩ => ⟨S2048, .f32⟩
  | .hbm, ⟨4, _⟩ => ⟨S8192, .i32⟩
  | .hbm, ⟨5, _⟩ => ⟨S_, .i32⟩
  | .hbm, ⟨6, _⟩ => ⟨S_, .i32⟩
  | .hbm, ⟨7, _⟩ => ⟨S8192, .i32⟩
  | .hbm, ⟨8, _⟩ => ⟨S_, .i32⟩
  | .hbm, ⟨9, _⟩ => ⟨S4096, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S_, .i32⟩
  | .hbm, ⟨19, _⟩ => ⟨S8192, .i32⟩
  | .hbm, ⟨20, _⟩ => ⟨S4096, .i32⟩
  | .hbm, ⟨21, _⟩ => ⟨S_, .i32⟩
  | .hbm, ⟨22, _⟩ => ⟨S_, .i32⟩
  | .hbm, ⟨23, _⟩ => ⟨S4096, .i32⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S_, .i1⟩
  | .hbm, ⟨58, _⟩ => ⟨S4096, .i1⟩
  | .hbm, ⟨59, _⟩ => ⟨S4096, .i1⟩
  | .hbm, ⟨60, _⟩ => ⟨S4096, .i1⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S8192, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S4096, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S4096x1, .i32⟩
  | .hbm, ⟨83, _⟩ => ⟨S1, .i32⟩
  | .hbm, ⟨84, _⟩ => ⟨S_, .i32⟩
  | .hbm, ⟨85, _⟩ => ⟨S4096x1, .i32⟩
  | .hbm, ⟨86, _⟩ => ⟨S4096x1, .i1⟩
  | .hbm, ⟨87, _⟩ => ⟨S1x1, .i32⟩
  | .hbm, ⟨88, _⟩ => ⟨S4096x1, .i32⟩
  | .hbm, ⟨89, _⟩ => ⟨S4096x1, .i1⟩
  | .hbm, ⟨90, _⟩ => ⟨S4096x1, .i1⟩
  | .hbm, ⟨91, _⟩ => ⟨S_, .i1⟩
  | .hbm, ⟨92, _⟩ => ⟨S4096, .i1⟩
  | .hbm, ⟨93, _⟩ => ⟨S4096, .f32⟩
  | .hbm, ⟨94, _⟩ => ⟨S_, .f32⟩
  | .hbm, ⟨95, _⟩ => ⟨S4096, .f32⟩
  | .hbm, ⟨96, _⟩ => ⟨S4096, .f32⟩
  | .hbm, ⟨97, _⟩ => ⟨S1x4096, .f32⟩
  | .hbm, ⟨98, _⟩ => ⟨S8192x4096, .f32⟩
  | .hbm, ⟨99, _⟩ => ⟨S_, .i32⟩
  | .hbm, ⟨100, _⟩ => ⟨S4096, .i32⟩
  | .hbm, ⟨101, _⟩ => ⟨S4096, .i1⟩
  | .hbm, ⟨102, _⟩ => ⟨S_, .i32⟩
  | .hbm, ⟨103, _⟩ => ⟨S4096, .i32⟩
  | .hbm, ⟨104, _⟩ => ⟨S4096, .i32⟩
  | .hbm, ⟨105, _⟩ => ⟨S4096, .i32⟩
  | .hbm, ⟨106, _⟩ => ⟨S4096x1, .i32⟩
  | .hbm, ⟨107, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_call1_call0_c : Ref sig .tc := ⟨.hbm, 21, rfl⟩
abbrev main_call1_call0_v0 : Ref sig .tc := ⟨.hbm, 22, rfl⟩
abbrev main_v10 : Ref sig .tc := ⟨.hbm, 23, rfl⟩
abbrev main_c_3 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_v6 : Ref sig .tc := ⟨.hbm, 31, rfl⟩
abbrev main_call2_v7 : Ref sig .tc := ⟨.hbm, 32, rfl⟩
abbrev main_call2_v8 : Ref sig .tc := ⟨.hbm, 33, rfl⟩
abbrev main_call2_c : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_call2_c_0 : Ref sig .tc := ⟨.hbm, 38, rfl⟩
abbrev main_call2_v12 : Ref sig .tc := ⟨.hbm, 39, rfl⟩
abbrev main_call2_v13 : Ref sig .tc := ⟨.hbm, 40, rfl⟩
abbrev main_v11 : Ref sig .tc := ⟨.hbm, 41, rfl⟩
abbrev main_c_4 : Ref sig .tc := ⟨.hbm, 42, rfl⟩
abbrev main_call3_v0 : Ref sig .tc := ⟨.hbm, 43, rfl⟩
abbrev main_call3_c : Ref sig .tc := ⟨.hbm, 44, rfl⟩
abbrev main_call3_v1 : Ref sig .tc := ⟨.hbm, 45, rfl⟩
abbrev main_call3_c_0 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_call3_c_1 : Ref sig .tc := ⟨.hbm, 50, rfl⟩
abbrev main_call3_v5 : Ref sig .tc := ⟨.hbm, 51, rfl⟩
abbrev main_call3_v6 : Ref sig .tc := ⟨.hbm, 52, rfl⟩
abbrev main_call3_c_2 : Ref sig .tc := ⟨.hbm, 53, rfl⟩
abbrev main_call3_v7 : Ref sig .tc := ⟨.hbm, 54, rfl⟩
abbrev main_call3_v8 : Ref sig .tc := ⟨.hbm, 55, rfl⟩
abbrev main_call3_c_3 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_v12 : Ref sig .tc := ⟨.hbm, 60, rfl⟩
abbrev main_call3_v13 : Ref sig .tc := ⟨.hbm, 61, rfl⟩
abbrev main_call3_v14 : Ref sig .tc := ⟨.hbm, 62, rfl⟩
abbrev main_v12 : Ref sig .tc := ⟨.hbm, 63, rfl⟩
abbrev main_v13 : Ref sig .tc := ⟨.hbm, 64, rfl⟩
abbrev main_c_5 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_c_6 : Ref sig .tc := ⟨.hbm, 71, rfl⟩
abbrev main_call4_v0 : Ref sig .tc := ⟨.hbm, 72, rfl⟩
abbrev main_call4_v1 : Ref sig .tc := ⟨.hbm, 73, rfl⟩
abbrev main_v19 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_c_1 : Ref sig .tc := ⟨.hbm, 83, rfl⟩
abbrev main_call5_c_2 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_3 : Ref sig .tc := ⟨.hbm, 91, rfl⟩
abbrev main_call5_v12 : Ref sig .tc := ⟨.hbm, 92, rfl⟩
abbrev main_call5_v13 : Ref sig .tc := ⟨.hbm, 93, rfl⟩
abbrev main_call5_cst : Ref sig .tc := ⟨.hbm, 94, rfl⟩
abbrev main_call5_v14 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_c_7 : Ref sig .tc := ⟨.hbm, 99, rfl⟩
abbrev main_v23 : Ref sig .tc := ⟨.hbm, 100, rfl⟩
abbrev main_v24 : Ref sig .tc := ⟨.hbm, 101, rfl⟩
abbrev main_c_8 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩

abbrev nD : Nat := 1
abbrev τ : Topo := Topo.v7x

variable {F : FTy → Type} [FloatOps F]
-- ==== Proof.Values.lean ====
/-
  What one vector subcore writes into its block of 256 entries, as functions on arrays alone.

  A task holds 128 index words and the whole table of 2048 parameters. For every chunk of 16 index words it gathers 16 parameters and scatters them
  twice into a block of 256 entries: first to the even entries of the chunk's 32 entries, then to the odd ones. The 16 scatters of a task are numbered
  0 … 15; the scatter numbered `n` fills the entries of rank `n` (`rank`), and `Filled w n f` says that the block `f` holds `w` at the
  entries of a rank below `n`.
-/
module

public import proofs.«01_k».proof.Proof.Gen.KernelIdeal
public import Idealize.ShloMosaic.Lib.ValueIdxCore

@[expose] public section

set_option maxRecDepth 16384

noncomputable section

namespace Cert.Proof.Values

open Cert.KernelIdeal Idealize.ShloMosaic Idealize.ShloMosaic.ValueIdx

variable {F : FTy → Type} [FloatOps F]

/-- The expanded row: entry `j` is the parameter that the index word of the pair `j / 2` names (the word read modulo the table's length, so that
    the row is defined for every index word; for words in range the modulus changes nothing). -/
def spread {α : Type} (params : S2048.Idx → α) (indices : S4096.Idx → BitVec 32) : S8192.Idx → α := fun j =>
  params (ix1 ⟨(indices (ix1 ⟨(j 0).val / 2, by have h : (j 0).val < 8192 := (j 0).isLt; omega⟩)).toNat % 2048, Nat.mod_lt _ (by decide)⟩)

/-- The block of a task that holds the parameters `params` and the 128 index words `ids`: entry `j` is the parameter that the index word of the
    pair `j / 2` names. -/
def block {α : Type} (params : S2048.Idx → α) (ids : S128.Idx → BitVec 32) : S256.Idx → α := fun j =>
  params (ix1 ⟨(ids (ix1 ⟨(j 0).val / 2, by have h : (j 0).val < 256 := (j 0).isLt; omega⟩)).toNat % 2048, Nat.mod_lt _ (by decide)⟩)

/-- The number of the scatter that fills entry `j` of a block: two scatters for every 32 entries, the even ones first. -/
def rank (j : S256.Idx) : Nat := 2 * ((j 0).val / 32) + (j 0).val % 2

/-- The block `f` holds `w` at every entry that the first `n` scatters fill. -/
def Filled {α : Type} (w : S256.Idx → α) (n : Nat) (f : S256.Idx → α) : Prop := ∀ j, rank j < n → f j = w j

theorem filled_zero {α : Type} (w f : S256.Idx → α) : Filled w 0 f := fun _ h => absurd h (Nat.not_lt_zero _)

/-- After the sixteen scatters the whole block is `w`. -/
theorem filled_all {α : Type} {w f : S256.Idx → α} (h : Filled w 16 f) : f = w := funext fun j => h j (by
  have hj : (j 0).val < 256 := (j 0).isLt
  unfold rank; omega)

/-- A fold that overwrites one entry per step keeps an entry that no step of the list names. -/
theorem foldl_keep {ι I α : Type} (hit : ι → I → Prop) [∀ k i, Decidable (hit k i)] (v : ι → α) (i : I) (l : List ι) (f : I → α)
    (h : ∀ k ∈ l, ¬ hit k i) : (l.foldl (fun g k => fun j => if hit k j then v k else g j) f) i = f i := by
  induction l generalizing f with
  | nil => rfl
  | cons a l ih =>
    rw [List.foldl_cons, ih _ fun k hk => h k (List.mem_cons_of_mem _ hk)]
    exact if_neg (h a List.mem_cons_self)

/-- A fold that overwrites one entry per step leaves `c` at an entry that some step of the list names, when every step naming it writes `c`. -/
theorem foldl_hit {ι I α : Type} (hit : ι → I → Prop) [∀ k i, Decidable (hit k i)] (v : ι → α) (i : I) (c : α) (l : List ι) (f : I → α)
    (hv : ∀ k ∈ l, hit k i → v k = c) (hk : ∃ k ∈ l, hit k i) : (l.foldl (fun g k => fun j => if hit k j then v k else g j) f) i = c := by
  induction l generalizing f with
  | nil => obtain ⟨k, hk, _⟩ := hk; exact absurd hk List.not_mem_nil
  | cons a l ih =>
    rw [List.foldl_cons]
    by_cases hl : ∃ k ∈ l, hit k i
    · exact ih _ (fun k hk => hv k (List.mem_cons_of_mem _ hk)) hl
    · rw [foldl_keep hit v i l _ fun k hk hh => hl ⟨k, hk, hh⟩]
      obtain ⟨k, hk, hh⟩ := hk
      rcases List.mem_cons.1 hk with rfl | hk
      · exact (if_pos hh).trans (hv k List.mem_cons_self hh)
      · exact absurd ⟨k, hk, hh⟩ hl

/-- The scatter as a fold that overwrites the entry each lane names. -/
theorem storeIdx_eq (f : Vec F S256 .f32) (idxs : Fin S256.rank → IVec S16 32) (v : Vec F S16 .f32) (h : ∀ a x, (idxs a x).toNat < S256.size a) :
    storeIdx f idxs v (fun _ => 1#1) false h
      = (List.finRange 16).foldl (fun g k => fun j => if ∀ a, (j a).val = (idxAt idxs h (Shape.ofLane k) a).val then v (Shape.ofLane k) else g j) f := by
  unfold storeIdx
  show (List.finRange 16).foldl _ f = (List.finRange 16).foldl _ f
  refine congrArg (fun g => (List.finRange 16).foldl g f) ?_
  funext g k j
  simp

/-- The scatter numbered `n` fills the entries of rank `n`: its lane `x` names the entry `32 (n / 2) + 2 x + n % 2` and carries `w` there. -/
theorem filled_storeIdx (w : Vec F S256 .f32) (n : Nat) (hn : n < 16) (f : Vec F S256 .f32) (hf : Filled w n f) (pos : IVec S16 32) (v : Vec F S16 .f32)
    (h : ∀ a x, ((![pos] : Fin 1 → IVec S16 32) a x).toNat < S256.size a)
    (hpos : ∀ x : Fin 16, (pos (ix1 x)).toNat = 32 * (n / 2) + 2 * x.val + n % 2)
    (hv : ∀ (x : Fin 16) (j : S256.Idx), (j 0).val = 32 * (n / 2) + 2 * x.val + n % 2 → v (ix1 x) = w j) :
    Filled w (n + 1) (storeIdx f ![pos] v (fun _ => 1#1) false h) := by
  have hlane : ∀ x : Fin 16, (Shape.ofLane x : S16.Idx) = ix1 x := fun x => by
    funext a; match a with | ⟨0, _⟩ => rfl
  have hname : ∀ (x : Fin 16) (j : S256.Idx), (∀ a, (j a).val = (idxAt ![pos] h (Shape.ofLane x) a).val) ↔ (j 0).val = 32 * (n / 2) + 2 * x.val + n % 2 :=
    fun x j => by
      rw [← hpos x, ← hlane x]
      exact ⟨fun hh => hh 0, fun hh a => by match a with | ⟨0, _⟩ => exact hh⟩
  intro j hj
  have hj256 : (j 0).val < 256 := (j 0).isLt
  rw [storeIdx_eq]
  by_cases hr : rank j = n
  · refine foldl_hit _ _ j (w j) _ f (fun (x : Fin 16) _ hx => ?_)
      ⟨(⟨(j 0).val % 32 / 2, by have := Nat.mod_lt (j 0).val (show 0 < 32 by decide); omega⟩ : Fin 16), List.mem_finRange _, (hname _ j).2 ?_⟩
    · exact (congrArg v (hlane x)).trans (hv x j ((hname x j).1 hx))
    · unfold rank at hr
      show (j 0).val = 32 * (n / 2) + 2 * ((j 0).val % 32 / 2) + n % 2
      omega
  · refine (foldl_keep _ _ j _ f fun (x : Fin 16) _ hx => hr ?_).trans ?_
    rotate_left
    · exact hf j (by omega)
    · have h1 := (hname x j).1 hx
      have h2 := x.isLt
      unfold rank; omega

end Cert.Proof.Values

end
-- ==== Proof.Setup.lean ====
/-
  The set-up of the kernel's launch: the SparseCore configuration, the resource algebra, the buffers the launch moves, and what
  every task takes and brings back.

  The one SparseCore call runs one task on each of 2 × 16 vector subcores. Task (c, s) reads all of the parameters, the 128
  indices starting at 256 s + 128 c, and writes the 256 entries of the intermediate row starting at 512 s + 256 c.
-/
module

public import proofs.«01_k».proof.Defs
public import proofs.«01_k».proof.Proof.Values
public import proofs.«01_k».proof.Proof.Gen.KernelIdeal.Skeleton
public import proofs.«01_k».proof.Proof.Gen.KernelIdeal.Launch
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The SparseCore configuration of the program. -/
abbrev K [FloatOps F] : SparseCore.Cfg τ sig (Pipeline.Sig Λ₀ (Fin 1) fun p => (pcfgs (F := F) p).Adm) 1 := sc (F := F)
/-- The bodies of the program below the SparseCore calls. -/
abbrev D [FloatOps F] : Defs nD τ sig (Elt F) (Pipeline.Sig Λ₀ (Fin 1) fun p => (pcfgs (F := F) p).Adm) := Pipeline.defs pcfgs defs₀
abbrev 𝒱₀ : Variants := Variants.none
abbrev 𝒱 : Variants := 𝒱₀.lift
abbrev v₀ : 𝒱.V := Sum.inl none

/-- The handshakes' semaphores are distinct, unscoped cells, and the tasks share no buffer. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The staging cells' component. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-! ## The launch memory and the buffers -/

variable (m : (ℓ : Loc nD τ sig) → Buf (Elt F) ℓ)

/-- The parameters, the indices and the intermediate row, as locations of device `d`. -/
abbrev pLoc (d : Dev nD) : Loc nD τ sig := (SparseCore.T d).loc main_arg3
abbrev iLoc (d : Dev nD) : Loc nD τ sig := (SparseCore.T d).loc main_arg2
abbrev oLoc (d : Dev nD) : Loc nD τ sig := (SparseCore.T d).loc main_v0

local notation "pV" => (Memref.whole Cert.KernelIdeal.main_arg3_scv : Memref Cert.KernelIdeal.sig Kind.scVector Space.hbm Cert.KernelIdeal.S2048 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v0_scv : Memref Cert.KernelIdeal.sig Kind.scVector Space.hbm Cert.KernelIdeal.S8192 EltTy.f32)

/-- The coordinates of the task on subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The task's indices and its part of the row, as the body slices them. -/
abbrev idxK (L : grid0.Coords) : Memref sig .scVector .hbm S128 .i32 :=
  (iV).slice (Rect.unit (s := S4096) (k0_off1 L) S128.size (k0_off1_inb L)) (fun _ => rfl)
abbrev outK (L : grid0.Coords) : Memref sig .scVector .hbm S256 .f32 :=
  (oV).slice (Rect.unit (s := S8192) (k0_off2 L) S256.size (k0_off2_inb L)) (fun _ => rfl)

/-- The share of the parameters the task reads by. -/
abbrev tok (L : grid0.Coords) : PosShare TreeShare := Transfers.shareTokN (Transfers.shareTokN fullShare (L 0).val) (L 1).val

/-- The row the tasks leave: entry `j` is the parameter named by index `j / 2`. -/
abbrev rowVal (d : Dev nD) : Buf (Elt F) (oLoc d) :=
  Values.spread (show S2048.Idx → Elt F .f32 from m (pLoc d)) (show S4096.Idx → BitVec 32 from m (iLoc d))

abbrev pTok (d : Dev nD) (L : grid0.Coords) : sProp 𝕄 := pLoc d ↦{tok L} m (pLoc d)
abbrev iPart (d : Dev nD) (L : grid0.Coords) : sProp 𝕄 := iLoc d ↦[(idxK L).view.set]{fullShare} m (iLoc d)
abbrev oPart (d : Dev nD) (L : grid0.Coords) (f : Buf (Elt F) (oLoc d)) : sProp 𝕄 := oLoc d ↦[(outK L).view.set]{fullShare} f

/-- What a task takes: a read share of the parameters, its indices, its part of the row as launched. -/
abbrev goPts (d : Dev nD) (L : grid0.Coords) : sProp 𝕄 := iprop(pTok m d L ∗ iPart m d L ∗ oPart d L (m (oLoc d)))
/-- What it brings back: the same, its part of the row at the values it names. -/
abbrev tdPts (d : Dev nD) (L : grid0.Coords) : sProp 𝕄 := iprop(pTok m d L ∗ iPart m d L ∗ oPart d L (rowVal m d))

theorem nCore_zero [FloatOps F] : (K (F := F)).nCore 0 = grid0.bound 0 := rfl
theorem nSub_zero [FloatOps F] : (K (F := F)).nSub 0 = grid0.bound 1 := rfl

/-- What the handshakes carry: each SparseCore takes and returns its sixteen tasks' pieces. -/
def P [FloatOps F] : (K (F := F)).Pay (nD := nD) (Val := Elt F) (Name := ℕ) (U := UU) where
  st := fun q d c => match q with
    | 0 => bigSep Finset.univ fun i : Fin ((K (F := F)).nSub 0) => goPts m d (coordsV (Fin.cast nCore_zero c) (Fin.cast nSub_zero i))
  dn := fun q d c => match q with
    | 0 => bigSep Finset.univ fun i : Fin ((K (F := F)).nSub 0) => tdPts m d (coordsV (Fin.cast nCore_zero c) (Fin.cast nSub_zero i))
  go := fun q d c i => match q with | 0 => goPts m d (coordsV (Fin.cast nCore_zero c) (Fin.cast nSub_zero i))
  td := fun q d c i => match q with | 0 => tdPts m d (coordsV (Fin.cast nCore_zero c) (Fin.cast nSub_zero i))
  x := fun _ _ => iprop(emp)

instance P_storable [FloatOps F] : (P (F := F) m).IsStorable where
  st q d c := match q with
    | 0 => (inferInstance : BI.Storable (upEmb : UEmb _ 𝕄)
        (bigSep Finset.univ fun i : Fin ((K (F := F)).nSub 0) => goPts m d (coordsV (Fin.cast nCore_zero c) (Fin.cast nSub_zero i))))
  dn q d c := match q with
    | 0 => (inferInstance : BI.Storable (upEmb : UEmb _ 𝕄)
        (bigSep Finset.univ fun i : Fin ((K (F := F)).nSub 0) => tdPts m d (coordsV (Fin.cast nCore_zero c) (Fin.cast nSub_zero i))))
  go q d c i := match q with
    | 0 => (inferInstance : BI.Storable (upEmb : UEmb _ 𝕄) (goPts m d (coordsV (Fin.cast nCore_zero c) (Fin.cast nSub_zero i))))
  td q d c i := match q with
    | 0 => (inferInstance : BI.Storable (upEmb : UEmb _ 𝕄) (tdPts m d (coordsV (Fin.cast nCore_zero c) (Fin.cast nSub_zero i))))

/-- A SparseCore's share of the call is its tasks' pieces, and back. -/
theorem vecSplit [FloatOps F] : (K (F := F)).VecSplit' (P m) 0 := by
  intro d c
  show (bigSep Finset.univ fun i : Fin ((K (F := F)).nSub 0) => goPts m d (coordsV (Fin.cast nCore_zero c) (Fin.cast nSub_zero i))) ⊢ |={Set.univ}=> iprop(
      (bigSep Finset.univ fun i : Fin ((K (F := F)).nSub 0) => goPts m d (coordsV (Fin.cast nCore_zero c) (Fin.cast nSub_zero i)))
      ∗ ((bigSep Finset.univ fun i : Fin ((K (F := F)).nSub 0) => tdPts m d (coordsV (Fin.cast nCore_zero c) (Fin.cast nSub_zero i)))
          -∗ bigSep Finset.univ fun i : Fin ((K (F := F)).nSub 0) => tdPts m d (coordsV (Fin.cast nCore_zero c) (Fin.cast nSub_zero i))))
  iintro H; imodintro
  isplitl [H]; · iexact H
  iintro H; iexact H

end Cert.Proof.Run

end
-- ==== Proof.Chunk.lean ====
/-
  One chunk of a task.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type} [FloatOps F]

local notation "𝕄" => MT nD τ sig (HIx 1) (Elt F) ℕ UU ℕ

local notation "pV" => (Memref.whole Cert.KernelIdeal.main_arg3_scv : Memref Cert.KernelIdeal.sig Kind.scVector Space.hbm Cert.KernelIdeal.S2048 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v0_scv : Memref Cert.KernelIdeal.sig Kind.scVector Space.hbm Cert.KernelIdeal.S8192 EltTy.f32)
local notation "sP" => (Memref.whole Cert.KernelIdeal.cc0_scratch0 : Memref Cert.KernelIdeal.sig Kind.scVector Space.vmem Cert.KernelIdeal.S2048 EltTy.f32)
local notation "sI" => (Memref.whole Cert.KernelIdeal.cc0_scratch1 : Memref Cert.KernelIdeal.sig Kind.scVector Space.vmem Cert.KernelIdeal.S128 EltTy.i32)
local notation "sO" => (Memref.whole Cert.KernelIdeal.cc0_scratch2 : Memref Cert.KernelIdeal.sig Kind.scVector Space.vmem Cert.KernelIdeal.S256 EltTy.f32)

/-- One chunk of a task: sixteen index words are loaded, the parameters they name gathered, and the sixteen values stored twice, at the
    positions `pos0` and at the positions `pos1`; each access is behind the check that its indices are in range. -/
def chunk (c : Fin τ.nSC) (s : Fin τ.nSub) (off : Fin 1 → ℕ) (inb : ∀ a, off a + S16.size a ≤ S128.size a)
    (P1 : IVec S16 32 → Prop) (d1 : ∀ v, Decidable (P1 v)) (e1 : ∀ v, P1 v → ∀ a x, ((![v] : Fin 1 → IVec S16 32) a x).toNat < S2048.size a)
    (pos0 : IVec S16 32) (P2 : Prop) (d2 : Decidable P2) (e2 : P2 → ∀ a x, ((![pos0] : Fin 1 → IVec S16 32) a x).toNat < S256.size a)
    (pos1 : IVec S16 32) (P3 : Prop) (d3 : Decidable P3) (e3 : P3 → ∀ a x, ((![pos1] : Fin 1 → IVec S16 32) a x).toNat < S256.size a) :
    Prog (TpuEff nD τ sig (Elt F) Λ₀ (.scVector c s)) PUnit := do
  let v : Vec F S16 .i32 ← Prog.lift (.load sI (Rect.unit (s := S128) off S16.size inb).toLoadRect (View.loadsAt_vmem h_S16))
  have h1 : P1 v := (← Prog.lift (TpuEff.assume (P1 v) (d1 v))).down
  let w : Vec F S16 .f32 ← SparseCore.vectorLoadIdx sP ![v] (e1 v h1) (View.loads_vmem h_S2048)
  have h2 : P2 := (← Prog.lift (TpuEff.assume P2 d2)).down
  SparseCore.vectorStoreIdx sO ![pos0] w (fun _ => 1#1) false (e2 h2) (View.stores_vmem_bits_univ h_S256 rfl)
  have h3 : P3 := (← Prog.lift (TpuEff.assume P3 d3)).down
  SparseCore.vectorStoreIdx sO ![pos1] w (fun _ => 1#1) false (e3 h3) (View.stores_vmem_bits_univ h_S256 rfl)

/-- The sixteen words that a chunk loads are the words `16 n … 16 n + 15` of the scratch. -/
theorem load_at (n : ℕ) (hn : n < 8) (off : Fin 1 → ℕ) (inb : ∀ a, off a + S16.size a ≤ S128.size a) (hoff : off = ![16 * n]) (ids : S128.Idx → BitVec 32)
    (x : Fin 16) :
    (sI).view.readAt (Elt F) (Rect.unit (s := S128) off S16.size inb).toLoadRect ids (ix1 x) = ids (ix1 ⟨16 * n + x.val, by have := x.isLt; omega⟩) := by
  subst hoff
  refine congrArg ids (funext fun a => ?_)
  match a with
  | 0 => exact Fin.ext (show 16 * n + 1 * x.val = 16 * n + x.val by omega)

/-- The block's scratch held whole, as a store into the whole of it names it. -/
theorem pts_access (d : Dev nD) (c : Fin τ.nSC) (s : Fin τ.nSub) (f : S256.Idx → Elt F .f32) :
    ((sO).view.loc (V d c s) ↦{fullShare} f : sProp 𝕄)
      = ((sO).access (Rect.whole S256)).loc (V d c s) ↦[((sO).access (Rect.whole S256)).set]{fullShare} f := by
  rw [show ((sO).access (Rect.whole S256)).set = Finset.univ from (View.set_slice_whole cc0_scratch2 _).trans (Rect.set_whole _)]

/-- Held at the index words `ids` and the parameters `params`, chunk `n` takes a block filled by the scatters below `2 n` to one filled by
    those below `2 n + 2`. -/
theorem wp_chunk (d : Dev nD) (c : Fin τ.nSC) (s : Fin τ.nSub) (params : S2048.Idx → Elt F .f32) (ids : S128.Idx → BitVec 32)
    (hids : ∀ j, (ids j).toNat < 2048) (n : ℕ) (hn : n < 8) {off : Fin 1 → ℕ} {inb : ∀ a, off a + S16.size a ≤ S128.size a} (hoff : off = ![16 * n])
    {P1 : IVec S16 32 → Prop} {d1 : ∀ v, Decidable (P1 v)} {e1 : ∀ v, P1 v → ∀ a x, ((![v] : Fin 1 → IVec S16 32) a x).toNat < S2048.size a}
    (m1 : ∀ v, (∀ a x, ((![v] : Fin 1 → IVec S16 32) a x).toNat < S2048.size a) → P1 v)
    {pos0 : IVec S16 32} {P2 : Prop} {d2 : Decidable P2} {e2 : P2 → ∀ a x, ((![pos0] : Fin 1 → IVec S16 32) a x).toNat < S256.size a}
    (m2 : (∀ a x, ((![pos0] : Fin 1 → IVec S16 32) a x).toNat < S256.size a) → P2)
    {pos1 : IVec S16 32} {P3 : Prop} {d3 : Decidable P3} {e3 : P3 → ∀ a x, ((![pos1] : Fin 1 → IVec S16 32) a x).toNat < S256.size a}
    (m3 : (∀ a x, ((![pos1] : Fin 1 → IVec S16 32) a x).toNat < S256.size a) → P3)
    (hpos0 : ∀ x : Fin 16, (pos0 (ix1 x)).toNat = 32 * n + 2 * x.val) (hpos1 : ∀ x : Fin 16, (pos1 (ix1 x)).toNat = 32 * n + 2 * x.val + 1)
    (Q : PUnit → sProp 𝕄) :
    iprop(((sI).view.loc (V d c s) ↦{fullShare} ids) ∗ ((sP).view.loc (V d c s) ↦{fullShare} params)
        ∗ (∃ f, ⌜Values.Filled (Values.block params ids) (2 * n) f⌝ ∗ (sO).view.loc (V d c s) ↦{fullShare} f)
        ∗ (((sI).view.loc (V d c s) ↦{fullShare} ids) ∗ ((sP).view.loc (V d c s) ↦{fullShare} params)
            ∗ (∃ f, ⌜Values.Filled (Values.block params ids) (2 * (n + 1)) f⌝ ∗ (sO).view.loc (V d c s) ↦{fullShare} f) -∗ Q ⟨⟩))
      ⊢ wp frame (wpE (defs₀ (F := F)) 𝒱₀ (V d c s) none) Set.univ
          (chunk c s off inb P1 d1 e1 pos0 P2 d2 e2 pos1 P3 d3 e3) Q := by
  have h1 : ∀ a x, ((![(sI).view.readAt (Elt F) (Rect.unit (s := S128) off S16.size inb).toLoadRect ids] : Fin 1 → IVec S16 32) a x).toNat < S2048.size a := by
    intro a x
    match a with
    | 0 =>
      rw [eq_ix1 x]
      exact (congrArg BitVec.toNat (load_at (F := F) n hn off inb hoff ids (x 0))).trans_lt (hids _)
  have h2 : ∀ a x, ((![pos0] : Fin 1 → IVec S16 32) a x).toNat < S256.size a := by
    intro a x
    match a with
    | 0 =>
      have hx : (x 0).val < 16 := (x 0).isLt
      rw [eq_ix1 x]
      exact (hpos0 (x 0)).trans_lt (show 32 * n + 2 * (x 0).val < 256 by omega)
  have h3 : ∀ a x, ((![pos1] : Fin 1 → IVec S16 32) a x).toNat < S256.size a := by
    intro a x
    match a with
    | 0 =>
      have hx : (x 0).val < 16 := (x 0).isLt
      rw [eq_ix1 x]
      exact (hpos1 (x 0)).trans_lt (show 32 * n + 2 * (x 0).val + 1 < 256 by omega)
  have hv : ∀ (r : ℕ) (_ : r < 2) (x : Fin 16) (j : S256.Idx), (j 0).val = 32 * n + 2 * x.val + r →
      loadIdx params ![(sI).view.readAt (Elt F) (Rect.unit (s := S128) off S16.size inb).toLoadRect ids] h1 (ix1 x) = Values.block params ids j := by
    intro r hr x j hj
    refine congrArg params (funext fun a => ?_)
    match a with
    | 0 =>
      refine Fin.ext ((congrArg BitVec.toNat (load_at (F := F) n hn off inb hoff ids x)).trans ?_)
      have e : (⟨16 * n + x.val, by have := x.isLt; omega⟩ : Fin 128) = ⟨(j 0).val / 2, by have h : (j 0).val < 256 := (j 0).isLt; omega⟩ :=
        Fin.ext (show 16 * n + x.val = (j 0).val / 2 by omega)
      rw [e]
      exact (Nat.mod_eq_of_lt (hids _)).symm
  unfold chunk
  rw [Prog.bind_lift]
  iintro ⟨Hi, Hp, ⟨%f, %hf, Ho⟩, Hk⟩
  iapply (wp_load 𝒱₀ (V d c s) none Set.univ (m := sI) (S := Finset.univ) (Finset.subset_univ _)) $$ Hi
  iintro Hi
  rw [Prog.bind_lift]
  iapply (wp_assume 𝒱₀ (V d c s) none Set.univ (m1 _ h1))
  iapply (SparseCore.wp_vectorLoadIdx 𝒱₀ (V d c s) none Set.univ (base := sP) (S := Finset.univ) (q := fullShare) (f := params) (Finset.subset_univ _)) $$ Hp
  iintro Hp
  rw [Memref.read_access_whole, Prog.bind_lift]
  iapply (wp_assume 𝒱₀ (V d c s) none Set.univ (m2 h2))
  ihave Ho := (Entails.of_eq (pts_access (F := F) d c s f)) $$ Ho
  iapply (SparseCore.wp_vectorStoreIdx 𝒱₀ (V d c s) none Set.univ (base := sO) (f := f)) $$ Ho
  iintro Ho
  rw [Memref.read_access_whole, Memref.write_access_whole_univ, Prog.bind_lift]
  iapply (wp_assume 𝒱₀ (V d c s) none Set.univ (m3 h3))
  rw [← Prog.bind_pure (SparseCore.vectorStoreIdx _ _ _ _ _ _ _)]
  iapply (SparseCore.wp_vectorStoreIdx 𝒱₀ (V d c s) none Set.univ (base := sO)) $$ Ho
  iintro Ho
  rw [Memref.read_access_whole, Memref.write_access_whole_univ]
  have hw0 := Values.filled_storeIdx (F := F) (Values.block params ids) (2 * n) (by omega) f hf pos0
    (loadIdx params ![(sI).view.readAt (Elt F) (Rect.unit (s := S128) off S16.size inb).toLoadRect ids] h1) h2
    (fun x => (hpos0 x).trans (by omega)) (fun x j hj => hv 0 (by omega) x j (by omega))
  have hw1 := Values.filled_storeIdx (F := F) (Values.block params ids) (2 * n + 1) (by omega) _ hw0 pos1
    (loadIdx params ![(sI).view.readAt (Elt F) (Rect.unit (s := S128) off S16.size inb).toLoadRect ids] h1) h3
    (fun x => (hpos1 x).trans (by omega)) (fun x j hj => hv 1 (by omega) x j (by omega))
  ihave Ho := (Entails.of_eq (pts_access (F := F) d c s _).symm) $$ Ho
  rw [Prog.pure_eq_ret, wp_ret]
  imodintro
  iapply Hk
  isplitl [Hi]; · iexact Hi
  isplitl [Hp]; · iexact Hp
  iexists _
  isplitr
  · ipureintro; exact hw1
  iexact Ho

end Cert.Proof.Run

end
-- ==== Proof.Tile.lean ====
/-
  One task, run at a symbolic (core, subcore) pair.
-/
module

public import proofs.«01_k».proof.Proof.Chunk

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 eq_ix1)

variable {F : FTy → Type} [FloatOps F]

local notation "𝕄" => MT nD τ sig (HIx 1) (Elt F) ℕ UU ℕ

local notation "pV" => (Memref.whole Cert.KernelIdeal.main_arg3_scv : Memref Cert.KernelIdeal.sig Kind.scVector Space.hbm Cert.KernelIdeal.S2048 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v0_scv : Memref Cert.KernelIdeal.sig Kind.scVector Space.hbm Cert.KernelIdeal.S8192 EltTy.f32)
local notation "sP" => (Memref.whole Cert.KernelIdeal.cc0_scratch0 : Memref Cert.KernelIdeal.sig Kind.scVector Space.vmem Cert.KernelIdeal.S2048 EltTy.f32)
local notation "sI" => (Memref.whole Cert.KernelIdeal.cc0_scratch1 : Memref Cert.KernelIdeal.sig Kind.scVector Space.vmem Cert.KernelIdeal.S128 EltTy.i32)
local notation "sO" => (Memref.whole Cert.KernelIdeal.cc0_scratch2 : Memref Cert.KernelIdeal.sig Kind.scVector Space.vmem Cert.KernelIdeal.S256 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-- The task's three DMA cells: the parameters' fetch, the indices' fetch, the write-out. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

/-- The subcore's own cells: the three, each at zero, together with the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase
              (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

/-- The subcore's own buffers: the three scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

theorem pts_p (q : PosShare TreeShare) (f : Buf (Elt F) (pLoc d)) :
    ((pV).view.loc (V d (cV L) (jV L)) ↦{q} f : sProp 𝕄) = pLoc d ↦{q} f := rfl
theorem pts_i (f : Buf (Elt F) (iLoc d)) :
    ((idxK L).view.loc (V d (cV L) (jV L)) ↦[(idxK L).view.set]{fullShare} f : sProp 𝕄) = iLoc d ↦[(idxK L).view.set]{fullShare} f := rfl
theorem pts_o (f : Buf (Elt F) (oLoc d)) :
    ((outK L).view.loc (V d (cV L) (jV L)) ↦[(outK L).view.set]{fullShare} f : sProp 𝕄) = oLoc d ↦[(outK L).view.set]{fullShare} f := rfl
theorem pts_sP (f : Buf (Elt F) ((V d (cV L) (jV L)).loc cc0_scratch0)) :
    ((sP).view.loc (V d (cV L) (jV L)) ↦{fullShare} f : sProp 𝕄) = (V d (cV L) (jV L)).loc cc0_scratch0 ↦{fullShare} f := rfl
theorem pts_sI (f : Buf (Elt F) ((V d (cV L) (jV L)).loc cc0_scratch1)) :
    ((sI).view.loc (V d (cV L) (jV L)) ↦{fullShare} f : sProp 𝕄) = (V d (cV L) (jV L)).loc cc0_scratch1 ↦{fullShare} f := rfl
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- The even positions of chunk `n`, counted in 32-bit words. -/
abbrev posE (n : ℕ) : IVec S16 32 :=
  muli (broadcast S16 2#32) (addi (broadcast S16 (BitVec.ofNat 32 (16 * n))) (iota .scVector S16 32 [0] iota_S16_d0_w32_scVector))

theorem posE_val : ∀ (n : Fin 8) (x : Fin 16), (posE n.val (ix1 x)).toNat = 32 * n.val + 2 * x.val := by decide +kernel
theorem posO_val : ∀ (n : Fin 8) (x : Fin 16), (addi (posE n.val) (broadcast S16 1#32) (ix1 x)).toNat = 32 * n.val + 2 * x.val + 1 := by decide +kernel

/-- The eight chunks of a task. -/
def chunks (c : Fin τ.nSC) (s : Fin τ.nSub) : Prog (TpuEff nD τ sig (Elt F) Λ₀ (.scVector c s)) PUnit := do
  chunk c s ![0] inb_S128_S16_0 k0_chk1 k0_chk1.dec k0_idx1_inb k0_pay5 _ (k0_chk2.dec _) (k0_idx2_inb _) (k0_pay6 k0_pay5) _ (k0_chk3.dec _) (k0_idx3_inb _)
  chunk c s ![16] inb_S128_S16_16 k0_chk4 k0_chk4.dec k0_idx4_inb k0_pay7 _ (k0_chk5.dec _) (k0_idx5_inb _) (k0_pay8 k0_pay7) _ (k0_chk6.dec _) (k0_idx6_inb _)
  chunk c s ![32] inb_S128_S16_32 k0_chk7 k0_chk7.dec k0_idx7_inb (k0_pay10 k0_pay9 2#32) _ (k0_chk8.dec _) (k0_idx8_inb _) (k0_pay11 (k0_pay10 k0_pay9 2#32)) _ (k0_chk9.dec _) (k0_idx9_inb _)
  chunk c s ![48] inb_S128_S16_48 k0_chk10 k0_chk10.dec k0_idx10_inb k0_pay12 _ (k0_chk11.dec _) (k0_idx11_inb _) (k0_pay13 k0_pay12) _ (k0_chk12.dec _) (k0_idx12_inb _)
  chunk c s ![64] inb_S128_S16_64 k0_chk13 k0_chk13.dec k0_idx13_inb k0_pay14 _ (k0_chk14.dec _) (k0_idx14_inb _) (k0_pay15 k0_pay14) _ (k0_chk15.dec _) (k0_idx15_inb _)
  chunk c s ![80] inb_S128_S16_80 k0_chk16 k0_chk16.dec k0_idx16_inb k0_pay16 _ (k0_chk17.dec _) (k0_idx17_inb _) (addi k0_pay16 k0_pay17) _ (k0_chk18.dec _) (k0_idx18_inb _)
  chunk c s ![96] inb_S128_S16_96 k0_chk19 k0_chk19.dec k0_idx19_inb k0_pay1 _ (k0_chk20.dec _) (k0_idx20_inb _) (k0_pay2 k0_pay1) _ (k0_chk21.dec _) (k0_idx21_inb _)
  chunk c s ![112] inb_S128_S16_112 k0_chk22 k0_chk22.dec k0_idx22_inb k0_pay3 _ (k0_chk23.dec _) (k0_idx23_inb _) (k0_pay4 k0_pay3) _ (k0_chk24.dec _) (k0_idx24_inb _)

/-- Held at the index words `ids` and the parameters `params`, the eight chunks leave the block whole. -/
theorem wp_chunks (d : Dev nD) (c : Fin τ.nSC) (s : Fin τ.nSub) (params : S2048.Idx → Elt F .f32) (ids : S128.Idx → BitVec 32)
    (hids : ∀ j, (ids j).toNat < 2048) (f : S256.Idx → Elt F .f32) (Q : PUnit → sProp 𝕄) :
    iprop(((sI).view.loc (V d c s) ↦{fullShare} ids) ∗ ((sP).view.loc (V d c s) ↦{fullShare} params) ∗ ((sO).view.loc (V d c s) ↦{fullShare} f)
        ∗ (((sI).view.loc (V d c s) ↦{fullShare} ids) ∗ ((sP).view.loc (V d c s) ↦{fullShare} params)
            ∗ ((sO).view.loc (V d c s) ↦{fullShare} Values.block params ids) -∗ Q ⟨⟩))
      ⊢ wp frame (wpE (defs₀ (F := F)) 𝒱₀ (V d c s) none) Set.univ (chunks c s) Q := by
  unfold chunks
  simp only [wp_bind]
  iintro ⟨Hi, Hp, Ho, Hk⟩
  ihave Ho : iprop(∃ f, ⌜Values.Filled (Values.block params ids) (2 * 0) f⌝ ∗ (sO).view.loc (V d c s) ↦{fullShare} f) $$ [Ho]
  · iexists f
    isplitr
    · ipureintro; exact Values.filled_zero _ _
    iexact Ho
  iapply (wp_chunk d c s params ids hids 0 (by decide) rfl (fun _ h => h) (fun h => h) (fun h => h) (posE_val 0) (posO_val 0))
  isplitl [Hi]; · iexact Hi
  isplitl [Hp]; · iexact Hp
  isplitl [Ho]; · iexact Ho
  iintro ⟨Hi, Hp, Ho⟩
  iapply (wp_chunk d c s params ids hids 1 (by decide) rfl (fun _ h => h) (fun h => h) (fun h => h) (posE_val 1) (posO_val 1))
  isplitl [Hi]; · iexact Hi
  isplitl [Hp]; · iexact Hp
  isplitl [Ho]; · iexact Ho
  iintro ⟨Hi, Hp, Ho⟩
  iapply (wp_chunk d c s params ids hids 2 (by decide) rfl (fun _ h => h) (fun h => h) (fun h => h) (posE_val 2) (posO_val 2))
  isplitl [Hi]; · iexact Hi
  isplitl [Hp]; · iexact Hp
  isplitl [Ho]; · iexact Ho
  iintro ⟨Hi, Hp, Ho⟩
  iapply (wp_chunk d c s params ids hids 3 (by decide) rfl (fun _ h => h) (fun h => h) (fun h => h) (posE_val 3) (posO_val 3))
  isplitl [Hi]; · iexact Hi
  isplitl [Hp]; · iexact Hp
  isplitl [Ho]; · iexact Ho
  iintro ⟨Hi, Hp, Ho⟩
  iapply (wp_chunk d c s params ids hids 4 (by decide) rfl (fun _ h => h) (fun h => h) (fun h => h) (posE_val 4) (posO_val 4))
  isplitl [Hi]; · iexact Hi
  isplitl [Hp]; · iexact Hp
  isplitl [Ho]; · iexact Ho
  iintro ⟨Hi, Hp, Ho⟩
  iapply (wp_chunk d c s params ids hids 5 (by decide) rfl (fun _ h => h) (fun h => h) (fun h => h) (posE_val 5) (posO_val 5))
  isplitl [Hi]; · iexact Hi
  isplitl [Hp]; · iexact Hp
  isplitl [Ho]; · iexact Ho
  iintro ⟨Hi, Hp, Ho⟩
  iapply (wp_chunk d c s params ids hids 6 (by decide) rfl (fun _ h => h) (fun h => h) (fun h => h) (posE_val 6) (posO_val 6))
  isplitl [Hi]; · iexact Hi
  isplitl [Hp]; · iexact Hp
  isplitl [Ho]; · iexact Ho
  iintro ⟨Hi, Hp, Ho⟩
  iapply (wp_chunk d c s params ids hids 7 (by decide) rfl (fun _ h => h) (fun h => h) (fun h => h) (posE_val 7) (posO_val 7))
  isplitl [Hi]; · iexact Hi
  isplitl [Hp]; · iexact Hp
  isplitl [Ho]; · iexact Ho
  iintro ⟨Hi, Hp, Ho⟩
  icases Ho with ⟨%g, %hg, Ho⟩
  rw [Values.filled_all hg]
  iapply Hk
  isplitl [Hi]; · iexact Hi
  isplitl [Hp]; · iexact Hp
  iexact Ho

set_option maxRecDepth 65536 in
/-- The body is the two fetches, eight chunks, and the write-out. -/
theorem expand_eq : cc0_sc_expand (F := F) L pV (Memref.isWhole_whole _) iV (Memref.isWhole_whole _) oV (Memref.isWhole_whole _)
      sP (Memref.isWhole_whole _) sI (Memref.isWhole_whole _) sO (Memref.isWhole_whole _) cc0_scoped0 cc0_scoped1 cc0_scoped2
    = (do
      Prog.lift (.enqueueDma pV (.here sP) (.dma cc0_scoped0.sem) (Memref.isWhole_whole _).wordExact (Memref.isWhole_whole _).wordExact ⟨Or.inl rfl, trivial⟩)
      Prog.lift (.waitDma2 cc0_scoped0.sem pV sP (Memref.isWhole_whole _).wordExact (Memref.isWhole_whole _).wordExact)
      Prog.lift (.enqueueDma (idxK L) (.here sI) (.dma cc0_scoped1.sem) (View.wordExact_bits rfl) (Memref.isWhole_whole _).wordExact ⟨Or.inl rfl, trivial⟩)
      Prog.lift (.waitDma2 cc0_scoped1.sem (idxK L) sI (View.wordExact_bits rfl) (Memref.isWhole_whole _).wordExact)
      chunks (cV L) (jV L)
      Prog.lift (.enqueueDma sO (.here (outK L)) (.dma cc0_scoped2.sem) (Memref.isWhole_whole _).wordExact (View.wordExact_bits rfl) ⟨Or.inl rfl, trivial⟩)
      Prog.lift (.waitDma2 cc0_scoped2.sem sO (outK L) (Memref.isWhole_whole _).wordExact (View.wordExact_bits rfl))
      pure ⟨⟩) := rfl

/-- The task's 128 index words. -/
abbrev ids (d : Dev nD) (L : grid0.Coords) : S128.Idx → BitVec 32 := (idxK L).view.read (Elt F) (m (iLoc d))

/-- A scratch that a copy filled holds what the copy read. -/
theorem fetched_p (f : Buf (Elt F) ((V d (cV L) (jV L)).loc cc0_scratch0)) (g : Buf (Elt F) (pLoc d)) :
    ((sP).view.loc (V d (cV L) (jV L)) ↦{fullShare} View.write (Elt F) (sP).view f (ReadAs.same.apply (View.read (Elt F) (pV).view g)) Finset.univ : sProp 𝕄)
      = (sP).view.loc (V d (cV L) (jV L)) ↦{fullShare} (show S2048.Idx → Elt F .f32 from g) :=
  congrArg (fun f => ((sP).view.loc (V d (cV L) (jV L)) ↦{fullShare} f : sProp 𝕄)) (View.write_whole_univ cc0_scratch0 f _)
theorem fetched_i (f : Buf (Elt F) ((V d (cV L) (jV L)).loc cc0_scratch1)) (g : S128.Idx → BitVec 32) :
    ((sI).view.loc (V d (cV L) (jV L)) ↦{fullShare} View.write (Elt F) (sI).view f (ReadAs.same.apply (e := .i32) (Val := Elt F) g) Finset.univ : sProp 𝕄)
      = (sI).view.loc (V d (cV L) (jV L)) ↦{fullShare} g :=
  congrArg (fun f => ((sI).view.loc (V d (cV L) (jV L)) ↦{fullShare} f : sProp 𝕄)) (View.write_whole_univ cc0_scratch1 f _)

/-- The task's block, at entry `j`, is the row's value at the entry it is written to. -/
theorem block_row (j : S256.Idx) : rowVal m d ((outK L).view.emb j) = Values.block (m (pLoc d)) (ids m d L) j := by
  have hj : (j 0).val < 256 := (j 0).isLt
  have h0 : (L 0).val < 2 := (L 0).isLt
  have h1 : (L 1).val < 16 := (L 1).isLt
  have he : ((((outK L).view.emb j : S8192.Idx) 0).val : ℕ) = 512 * (L 1).val + 256 * (L 0).val + (j 0).val := by
    show k0_off2 L 0 + 1 * (j 0).val = _
    rw [k0_off2_eq, Nat.one_mul]; rfl
  have hi (q : S128.Idx) : ((((idxK L).view.emb q : S4096.Idx) 0).val : ℕ) = 256 * (L 1).val + 128 * (L 0).val + (q 0).val := by
    show k0_off1 L 0 + 1 * (q 0).val = _
    rw [k0_off1_eq, Nat.one_mul]; rfl
  refine congrArg (m (pLoc d)) (congrArg ix1 (Fin.ext (congrArg (fun w : BitVec 32 => w.toNat % 2048) ?_)))
  refine congrArg (m (iLoc d)) (Eq.trans (congrArg ix1 (Fin.ext ?_)) (eq_ix1 _).symm)
  refine Eq.trans ?_ (hi _).symm
  show (((outK L).view.emb j : S8192.Idx) 0).val / 2 = 256 * (L 1).val + 128 * (L 0).val + (j 0).val / 2
  rw [he]
  omega

/-- The task's part of the row after the write-out. -/
theorem written_o (f : Buf (Elt F) (oLoc d)) :
    ((outK L).view.loc (V d (cV L) (jV L)) ↦[(outK L).view.set]{fullShare}
        (outK L).view.writes (Elt F) f [⟨Rect.whole S256, ReadAs.same.apply (View.read (Elt F) (sO).view (Values.block (m (pLoc d)) (ids m d L)))⟩] : sProp 𝕄)
      = oPart d L (rowVal m d) := by
  refine pointsTo_congr fun i hi => ?_
  obtain ⟨j, -, rfl⟩ := Finset.mem_map.mp hi
  refine (congrFun (View.read_writes_whole (outK L).view f _) j).trans ?_
  exact (block_row m d L j).symm

set_option maxRecDepth 16384 in
theorem tile_body (hF : (K (F := F)).Facts) (O : CellTallies nD τ sig (HIx 1)) (W : Waits sig (HIx 1)) (hO : ∀ g, O g none = 0)
    (hids : ∀ j : S4096.Idx, ((show S4096.Idx → BitVec 32 from m (iLoc d)) j).toNat < 2048) :
    iprop(levAts (K (F := F)).L (K (F := F)).lev ∗ emp ∗ goPts m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_expand L pV (Memref.isWhole_whole _) iV (Memref.isWhole_whole _) oV (Memref.isWhole_whole _)
            sP (Memref.isWhole_whole _) sI (Memref.isWhole_whole _) sO (Memref.isWhole_whole _) cc0_scoped0 cc0_scoped1 cc0_scoped2)
          fun _ => iprop(tdPts m d L
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hp, Hi, Ho⟩, ⟨⟨%fp, Hsp⟩, ⟨%fi, Hsi⟩, ⟨%fo, Hso⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hp' := (Entails.of_eq (pts_p (F := F) d L _ _).symm) $$ Hp
  ihave Hi' := (Entails.of_eq (pts_i (F := F) d L _).symm) $$ Hi
  ihave Ho' := (Entails.of_eq (pts_o (F := F) d L _).symm) $$ Ho
  ihave Hsp' := (Entails.of_eq (pts_sP (F := F) d L _).symm) $$ Hsp
  ihave Hsi' := (Entails.of_eq (pts_sI (F := F) d L _).symm) $$ Hsi
  ihave Hso' := (Entails.of_eq (pts_sO (F := F) d L _).symm) $$ Hso
  rw [expand_eq]
  generalize hR : chunks (F := F) (cV L) (jV L) = R
  sl_exec (disch := exact View.amount_pos _ _ (show 0 < _ by decide))
  unfold tile_body.sl.dma0 tile_body.sl.dma0_1
  ihave Hsp := (Entails.of_eq (fetched_p d L fp (m (pLoc d)))) $$ Hsp'
  ihave Hsi := (Entails.of_eq (fetched_i d L fi (ids m d L))) $$ Hsi'
  have hw := fun Q => wp_chunks (F := F) d (cV L) (jV L) (m (pLoc d)) (ids m d L) (fun j => hids ((idxK L).view.emb j)) fo Q
  rw [hR] at hw
  rw [wp_bind]
  iapply (hw _)
  isplitl [Hsi]; · iexact Hsi
  isplitl [Hsp]; · iexact Hsp
  isplitl [Hso']; · iexact Hso'
  iintro ⟨Hsi, Hsp, Hso⟩
  sl_exec (disch := exact View.amount_pos _ _ (show 0 < _ by decide))
  sl_step
  unfold tile_body.sl.dma0_2
  ihave Ho := (Entails.of_eq (written_o m d L (m (oLoc d)))) $$ Ho'
  isplitl [Hp' Hi' Ho]
  · isplitl [Hp']; · iapply (Entails.of_eq (pts_p (F := F) d L _ _)); iexact Hp'
    isplitl [Hi']; · iapply (Entails.of_eq (pts_i (F := F) d L _)); iexact Hi'
    iexact Ho
  isplitl [Hsp Hsi Hso Hbufs]
  · isplitl [Hsp]; · iexists _; iexact Hsp
    isplitl [Hsi]; · iexists _; iexact Hsi
    isplitl [Hso]; · iexists _; iexact Hso
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p _
  rcases p.2 with _ | q
  · exact .inr (.inl rfl)
  · exact .inr (.inr (congrArg some (Subsingleton.elim q 0)))

/-- What a vector subcore runs for the call: the task's body at the subcore's coordinates. -/
theorem defs₀_vector (c : Fin τ.nSC) (s : Fin τ.nSub) :
    defs₀ (F := F) (.scVector c s) 0 ()
      = SparseCore.onTile hcore0 hsub0 (fun c s => cc0_sc_expand (coordsV c s) pV (Memref.isWhole_whole _) iV (Memref.isWhole_whole _) oV (Memref.isWhole_whole _)
          sP (Memref.isWhole_whole _) sI (Memref.isWhole_whole _) sO (Memref.isWhole_whole _) cc0_scoped0 cc0_scoped1 cc0_scoped2) ⟨⟩ c s := rfl

/-- Every task of the call brings back what `P` says, if every index names a parameter. -/
theorem tileObl (hF : (K (F := F)).Facts) (hids : ∀ d, ∀ j : S4096.Idx, ((show S4096.Idx → BitVec 32 from m (iLoc d)) j).toNat < 2048) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO (hids d)

end Tile

end Cert.Proof.Run

end
-- ==== Proof.Split.lean ====
/-
  How the three arrays of the SparseCore call split among the 2 × 16 tasks, and how the tasks' pieces join again.

  The parameters go out as read shares, what remains of the full share staying behind. The indices and the row go out as consecutive
  blocks: task (c, s) has the block numbered `2 s + c` of each.
-/
module

public import proofs.«01_k».proof.Proof.Tile

@[expose] public section

noncomputable section

namespace Cert.Proof.Run

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The tasks' blocks tile the arrays -/

/-- The coordinates of a task, from its pair. -/
abbrev at2 (t : Fin 2 × Fin 16) : grid0.Coords := coordsV t.1 t.2

theorem mem_idxK (t : Fin 2 × Fin 16) (j : S4096.Idx) :
    j ∈ (idxK (at2 t)).view.set ↔ (j 0).val / 128 = 2 * t.2.val + t.1.val := by
  have hs : (idxK (at2 t)).view.set = (Rect.unit (s := S4096) (k0_off1 (at2 t)) S128.size (k0_off1_inb (at2 t))).set := View.set_slice_whole _ _
  have h1 := t.1.isLt
  rw [hs, Rect.mem_set_unit]
  constructor
  · intro h
    have h := h 0
    rw [k0_off1_eq] at h
    have h : 256 * t.2.val + 128 * t.1.val ≤ (j 0).val ∧ (j 0).val < 256 * t.2.val + 128 * t.1.val + 128 := h
    omega
  · intro h a
    match a with
    | 0 =>
      rw [k0_off1_eq]
      show 256 * t.2.val + 128 * t.1.val ≤ (j 0).val ∧ (j 0).val < 256 * t.2.val + 128 * t.1.val + 128
      omega

theorem mem_outK (t : Fin 2 × Fin 16) (j : S8192.Idx) :
    j ∈ (outK (at2 t)).view.set ↔ (j 0).val / 256 = 2 * t.2.val + t.1.val := by
  have hs : (outK (at2 t)).view.set = (Rect.unit (s := S8192) (k0_off2 (at2 t)) S256.size (k0_off2_inb (at2 t))).set := View.set_slice_whole _ _
  have h1 := t.1.isLt
  rw [hs, Rect.mem_set_unit]
  constructor
  · intro h
    have h := h 0
    rw [k0_off2_eq] at h
    have h : 512 * t.2.val + 256 * t.1.val ≤ (j 0).val ∧ (j 0).val < 512 * t.2.val + 256 * t.1.val + 256 := h
    omega
  · intro h a
    match a with
    | 0 =>
      rw [k0_off2_eq]
      show 512 * t.2.val + 256 * t.1.val ≤ (j 0).val ∧ (j 0).val < 512 * t.2.val + 256 * t.1.val + 256
      omega

/-- A task's pair is determined by the number of its block. -/
theorem pair_inj {t t' : Fin 2 × Fin 16} (h : 2 * t.2.val + t.1.val = 2 * t'.2.val + t'.1.val) : t = t' := by
  have h1 := t.1.isLt
  have h2 := t'.1.isLt
  exact Prod.ext (Fin.ext (by omega)) (Fin.ext (by omega))

/-- A whole array is its blocks, one for every task, if membership in a block is decided by a number below 32. -/
theorem tile_pts {ℓ : Loc nD τ sig} (B : Fin 2 × Fin 16 → Finset (Idx ℓ)) (num : Idx ℓ → ℕ) (hlt : ∀ j, num j < 32)
    (hB : ∀ t j, j ∈ B t ↔ num j = 2 * t.2.val + t.1.val) (f : Buf (Elt F) ℓ) :
    (ℓ ↦{fullShare} f : sProp 𝕄) = bigSep Finset.univ fun c : Fin 2 => bigSep Finset.univ fun i : Fin 16 => ℓ ↦[B (c, i)]{fullShare} f := by
  have hd : ∀ t ∈ (Finset.univ : Finset (Fin 2 × Fin 16)), ∀ t' ∈ (Finset.univ : Finset (Fin 2 × Fin 16)), t ≠ t' → Disjoint (B t) (B t') :=
    fun t _ t' _ hne => Finset.disjoint_left.mpr fun j h h' => hne (pair_inj (((hB t j).mp h).symm.trans ((hB t' j).mp h')))
  have hc : (Finset.univ : Finset (Fin 2 × Fin 16)).biUnion B = Finset.univ := by
    ext j
    have hj := hlt j
    refine ⟨fun _ => Finset.mem_univ _, fun _ => Finset.mem_biUnion.mpr ⟨(⟨num j % 2, by omega⟩, ⟨num j / 2, by omega⟩), Finset.mem_univ _, (hB _ j).mpr ?_⟩⟩
    show num j = 2 * (num j / 2) + num j % 2
    omega
  rw [show (bigSep Finset.univ fun c : Fin 2 => bigSep Finset.univ fun i : Fin 16 => (ℓ ↦[B (c, i)]{fullShare} f : sProp 𝕄))
      = bigSep (Finset.univ ×ˢ Finset.univ) fun t : Fin 2 × Fin 16 => ℓ ↦[B t]{fullShare} f from
      (SparseCore.bigSep_product Finset.univ Finset.univ fun t : Fin 2 × Fin 16 => (ℓ ↦[B t]{fullShare} f : sProp 𝕄)).symm,
    Finset.univ_product_univ, ← pointsTo_biUnion Finset.univ (ℓ := ℓ) B hd, hc]

theorem i_pts (d : Dev nD) (f : Buf (Elt F) (iLoc d)) :
    (iLoc d ↦{fullShare} f : sProp 𝕄)
      = bigSep Finset.univ fun c : Fin 2 => bigSep Finset.univ fun i : Fin 16 => iLoc d ↦[(idxK (coordsV c i)).view.set]{fullShare} f :=
  tile_pts (ℓ := iLoc d) (fun t => (idxK (at2 t)).view.set) (fun j : S4096.Idx => (j 0).val / 128)
    (fun j => by have h : ((show S4096.Idx from j) 0).val < 4096 := ((show S4096.Idx from j) 0).isLt
                 show ((show S4096.Idx from j) 0).val / 128 < 32
                 omega) mem_idxK f

theorem o_pts (d : Dev nD) (f : Buf (Elt F) (oLoc d)) :
    (oLoc d ↦{fullShare} f : sProp 𝕄)
      = bigSep Finset.univ fun c : Fin 2 => bigSep Finset.univ fun i : Fin 16 => oPart d (coordsV c i) f :=
  tile_pts (ℓ := oLoc d) (fun t => (outK (at2 t)).view.set) (fun j : S8192.Idx => (j 0).val / 256)
    (fun j => by have h : ((show S8192.Idx from j) 0).val < 8192 := ((show S8192.Idx from j) 0).isLt
                 show ((show S8192.Idx from j) 0).val / 256 < 32
                 omega) mem_outK f

/-! ## The parameters' read shares -/

/-- What remains of the parameters' full share beside the tasks' read shares. -/
def pRest (d : Dev nD) (f : Buf (Elt F) (pLoc d)) : sProp 𝕄 :=
  iprop((pLoc d ↦{Transfers.shareDrop fullShare 2} f)
    ∗ bigSep Finset.univ fun c : Fin 2 => pLoc d ↦{Transfers.shareDrop (Transfers.shareTokN fullShare c.val) 16} f)

/-- A core's read share is what remains of it beside its tasks' read shares, and back. -/
theorem p_deal (d : Dev nD) (f : Buf (Elt F) (pLoc d)) :
    (bigSep Finset.univ fun c : Fin 2 => (pLoc d ↦{Transfers.shareTok fullShare 2 c} f : sProp 𝕄))
      ⊢ bigSep Finset.univ fun c : Fin 2 => iprop((pLoc d ↦{Transfers.shareDrop (Transfers.shareTok fullShare 2 c) 16} f)
          ∗ bigSep Finset.univ fun i : Fin 16 => pLoc d ↦{Transfers.shareTok (Transfers.shareTok fullShare 2 c) 16 i} f) :=
  bigSep_mono fun c _ => Transfers.pointsTo_toks_split (Transfers.shareTok fullShare 2 c) 16
theorem p_undeal (d : Dev nD) (f : Buf (Elt F) (pLoc d)) :
    (bigSep Finset.univ fun c : Fin 2 => iprop((pLoc d ↦{Transfers.shareDrop (Transfers.shareTok fullShare 2 c) 16} f)
          ∗ bigSep Finset.univ fun i : Fin 16 => pLoc d ↦{Transfers.shareTok (Transfers.shareTok fullShare 2 c) 16 i} f))
      ⊢ (bigSep Finset.univ fun c : Fin 2 => (pLoc d ↦{Transfers.shareTok fullShare 2 c} f : sProp 𝕄)) :=
  bigSep_mono fun c _ => Transfers.pointsTo_toks_join (Transfers.shareTok fullShare 2 c) 16

theorem p_split (d : Dev nD) (f : Buf (Elt F) (pLoc d)) :
    (pLoc d ↦{fullShare} f : sProp 𝕄)
      ⊢ iprop(pRest d f ∗ bigSep Finset.univ fun c : Fin 2 => bigSep Finset.univ fun i : Fin 16 => pLoc d ↦{tok (coordsV c i)} f) := by
  unfold pRest
  refine (Transfers.pointsTo_toks_split fullShare 2).trans ?_
  iintro ⟨H, Hs⟩
  ihave Hs := (p_deal d f) $$ Hs
  ihave Hs := (Entails.of_eq (bigSep_sep' _ _ _)) $$ Hs
  icases Hs with ⟨Hr, Hs⟩
  isplitl [H Hr]
  · isplitl [H]; · iexact H
    iexact Hr
  iexact Hs

theorem p_join (d : Dev nD) (f : Buf (Elt F) (pLoc d)) :
    iprop(pRest d f ∗ bigSep Finset.univ fun c : Fin 2 => bigSep Finset.univ fun i : Fin 16 => pLoc d ↦{tok (coordsV c i)} f)
      ⊢ (pLoc d ↦{fullShare} f : sProp 𝕄) := by
  unfold pRest
  refine BIBase.Entails.trans ?_ (Transfers.pointsTo_toks_join fullShare 2)
  iintro ⟨⟨H, Hr⟩, Hs⟩
  isplitl [H]; · iexact H
  iapply (p_undeal d f)
  iapply (Entails.of_eq (bigSep_sep' _ _ _).symm)
  isplitl [Hr]; · iexact Hr
  iexact Hs

/-! ## The call's operands -/

variable (m : (ℓ : Loc nD τ sig) → Buf (Elt F) ℓ)

theorem st_eq [FloatOps F] (d : Dev nD) :
    (bigSep Finset.univ fun c : Fin ((K (F := F)).nCore 0) => (P m).st 0 d c)
      = bigSep Finset.univ fun c : Fin 2 => bigSep Finset.univ fun i : Fin 16 => goPts m d (coordsV c i) := rfl
theorem dn_eq [FloatOps F] (d : Dev nD) :
    (bigSep Finset.univ fun c : Fin ((K (F := F)).nCore 0) => (P m).dn 0 d c)
      = bigSep Finset.univ fun c : Fin 2 => bigSep Finset.univ fun i : Fin 16 => tdPts m d (coordsV c i) := rfl

/-- Pieces of three kinds, one of each for every task, are the tasks' triples. -/
theorem triples (A B C : Fin 2 → Fin 16 → sProp 𝕄) :
    (bigSep Finset.univ fun c : Fin 2 => bigSep Finset.univ fun i : Fin 16 => iprop(A c i ∗ B c i ∗ C c i))
      = iprop((bigSep Finset.univ fun c : Fin 2 => bigSep Finset.univ fun i : Fin 16 => A c i)
          ∗ (bigSep Finset.univ fun c : Fin 2 => bigSep Finset.univ fun i : Fin 16 => B c i)
          ∗ bigSep Finset.univ fun c : Fin 2 => bigSep Finset.univ fun i : Fin 16 => C c i) := by
  simp only [bigSep_sep']

/-- The launched arrays are the call's operands, and what stays behind. -/
theorem call_split [FloatOps F] (d : Dev nD) :
    iprop((pLoc d ↦{fullShare} m (pLoc d)) ∗ (iLoc d ↦{fullShare} m (iLoc d)) ∗ oLoc d ↦{fullShare} m (oLoc d))
      ⊢ (iprop(pRest d (m (pLoc d)) ∗ bigSep Finset.univ fun c : Fin ((K (F := F)).nCore 0) => (P m).st 0 d c) : sProp 𝕄) := by
  rw [st_eq, triples, i_pts, o_pts]
  iintro ⟨Hp, Hi, Ho⟩
  ihave Hp := (p_split d _) $$ Hp
  icases Hp with ⟨Hr, Hp⟩
  isplitl [Hr]; · iexact Hr
  isplitl [Hp]; · iexact Hp
  isplitl [Hi]; · iexact Hi
  iexact Ho

/-- What the call brings back, with what stayed behind, is the arrays again, the row now at the values that `rowVal` names. -/
theorem call_join [FloatOps F] (d : Dev nD) :
    iprop(pRest d (m (pLoc d)) ∗ bigSep Finset.univ fun c : Fin ((K (F := F)).nCore 0) => (P m).dn 0 d c)
      ⊢ (iprop((pLoc d ↦{fullShare} m (pLoc d)) ∗ (iLoc d ↦{fullShare} m (iLoc d)) ∗ oLoc d ↦{fullShare} rowVal m d) : sProp 𝕄) := by
  rw [dn_eq, triples, i_pts, o_pts]
  iintro ⟨Hr, Hp, Hi, Ho⟩
  isplitl [Hr Hp]
  · iapply (p_join d _)
    isplitl [Hr]; · iexact Hr
    iexact Hp
  isplitl [Hi]; · iexact Hi
  iexact Ho

end Cert.Proof.Run

end
-- ==== Proof.Merge.lean ====
/-
  The TensorCore call: what its body does at one grid point.

  At every point the body reads the expanded row, the mask row and a block of 256 rows of the default array, and leaves in the result's
  block the row where the mask word is nonzero and the default elsewhere (`k1_pay1`).
-/
module

public import proofs.«01_k».proof.Proof.Setup
public import proofs.«01_k».proof.Proof.Gen.KernelIdeal.Points
public import Idealize.ShloMosaic.Lib.Pipeline.RegionArrays
public import Idealize.ShloMosaic.Lib.Pipeline.FrameBody
public import Idealize.ShloMosaic.Lib.Pipeline.ValueKit
public import Idealize.ShloMosaic.Lib.VecWindow

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- One run of the body, on any four whole buffers: the three inputs are left as they were, the result's buffer holds the merge. -/
theorem merge_run (c : Dev nD) (i : grid1.Coords) (M1 : Memref sig .tc .vmem S1x8192 .f32) (h1 : M1.IsWhole) (M2 : Memref sig .tc .vmem S1x8192 .i32) (h2 : M2.IsWhole)
    (M3 : Memref sig .tc .vmem S256x8192 .f32) (h3 : M3.IsWhole) (M4 : Memref sig .tc .vmem S256x8192 .f32) (h4 : M4.IsWhole)
    (X1 : S1x8192.Idx → Elt F .f32) (X2 : S1x8192.Idx → Elt F .i32) (X3 X4 : S256x8192.Idx → Elt F .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (iprop(owns (c : Thread nD τ) M1 fullShare X1 ∗ owns (c : Thread nD τ) M2 fullShare X2 ∗ owns (c : Thread nD τ) M3 fullShare X3
            ∗ owns (c : Thread nD τ) M4 fullShare (k1_pay1 X2 X1 X3)) -∗ Q ⟨⟩))
      ⊢ wp frame (wpE (defs₀ (F := F)) 𝒱₀ (c : Thread nD τ) none) Set.univ (cc1__merge_body_skel i M1 h1 M2 h2 M3 h3 M4 h4) Q := by
  unfold owns
  iintro ⟨⟨%f1, %e1, H1⟩, ⟨%f2, %e2, H2⟩, ⟨%f3, %e3, H3⟩, ⟨%f4, -, H4⟩, Hk⟩
  sl_exec
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr
  swap; · iexact H4
  ipureintro
  rw [View.read_writes_full, View.readAt_full, View.readAt_full, View.readAt_full, e1, e2, e3]

/-! ## The proof data, at an entry valuation -/

section Region

variable (W : Dev nD → Valuation τ sig (Elt F))

/-- A window's array as the call finds it. -/
abbrev arr0 (c : Dev nD) (w : Fin 4) : Buf (Elt F) ((cfg1.win w).arr.view.loc (c.tc : Thread nD τ)) := W c (Proc.devRef .tc (Pipeline.arrRef spec1 w))
/-- A window's block of it, at a grid point. -/
abbrev blk0 (c : Dev nD) (w : Fin 4) (t : Fin cfg1.N) : ((cfg1.win w).xblock (cfg1.grid.coords t)).Idx → Elt F (cfg1.win w).elt :=
  ((cfg1.win w).blk t).view.read (Elt F) (arr0 W c w)

/-- What every staging buffer holds after the body at a point: the inputs their blocks, the result the merge. -/
def after1 (c : Dev nD) : (w : Fin 4) → (t : Fin cfg1.N) → (cfg1.win w).block.Idx → Elt F (cfg1.win w).elt
  | ⟨0, _⟩, t => blk0 W c 0 t
  | ⟨1, _⟩, t => blk0 W c 1 t
  | ⟨2, _⟩, t => blk0 W c 2 t
  | ⟨3, _⟩, t => k1_pay1 (F := F) (blk0 W c 1 t) (blk0 W c 0 t) (blk0 W c 2 t)
  | ⟨_ + 4, h⟩, _ => absurd h (Nat.not_lt.2 (Nat.le_add_left _ _))

/-- The call's proof data on a core: nothing is owed, every array is held outright. -/
def dat (c : Dev nD) : Pipeline.Dat τ (Elt F) (HIx 1) ℕ UU ℕ cfg1 c where
  A w := arr0 W c w
  after := after1 W c
  Φ _ := BI.emp
  q _ := fullShare
  owed _ := 0

/-- An input's buffer holds its block whenever the body runs. -/
theorem before0 (c : Dev nD) (t : Fin cfg1.N) (d) : (dat W c).before 0 t d = blk0 W c 0 t :=
  ((dat W c).before_in_eq_fetched 0 rfl (fun _ => rfl) (fun _ _ _ => rfl) (fun _ => rfl) t d).trans rfl
theorem before1 (c : Dev nD) (t : Fin cfg1.N) (d) : (dat W c).before 1 t d = blk0 W c 1 t :=
  ((dat W c).before_in_eq_fetched 1 rfl (fun _ => rfl) (fun _ _ _ => rfl) (fun _ => rfl) t d).trans rfl
theorem before2 (c : Dev nD) (t : Fin cfg1.N) (d) : (dat W c).before 2 t d = blk0 W c 2 t :=
  ((dat W c).before_in_eq_fetched 2 rfl (fun _ => rfl) (fun _ _ _ => rfl) (fun _ => rfl) t d).trans rfl

set_option backward.isDefEq.respectTransparency false in
/-- The body's obligation at every point. -/
theorem body_obligation (c : Dev nD) : Pipeline.BodyObligation (dat W c) (defs₀ (F := F)) 𝒱₀ (none : HIx 1) Set.univ := fun t => by
  rw [bigSep_W1, bigSep_W1]
  simp only [before0, before1, before2]
  rw [show (dat W c).owesAt (none : HIx 1) t.succ = (dat W c).owesAt (none : HIx 1) t.castSucc from rfl,
    show (dat W c).Φ t.succ = (dat W c).Φ t.castSucc from rfl]
  change _ ⊢ wp _ _ _ (bodyAt1 t) _
  unfold bodyAt1
  rw [cc1__merge_body_eq_skeleton]
  iintro ⟨HΦ, Howes, ⟨%d0, H0⟩, ⟨%d1, H1⟩, ⟨%d2, H2⟩, ⟨%d3, H3⟩⟩
  have hm := fun Q => merge_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (blk0 W c 0 t) (blk0 W c 1 t) (blk0 W c 2 t) ((dat W c).before 3 t d3) Q
  iapply (hm _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

end Region

end Cert.Proof.Run

end
-- ==== Proof.Region.lean ====
/-
  The TensorCore call's result array, and the call as a region of the host program.

  The blocks written back at the 32 points cover the result, so after the call it holds the merge at every index (`merged`); the three
  inputs are as they were.
-/
module

public import proofs.«01_k».proof.Proof.Merge
public import proofs.«01_k».proof.Proof.Gen.KernelIdeal.Launch

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Entry `b` of a row array. -/
def col (b : Fin 8192) : S1x8192.Idx := ValueIdx.ix2 (0 : Fin 1) b

/-- The row's value where the mask word is nonzero, the default's elsewhere. -/
def pick {α : Type} (w : BitVec 32) (x r : α) : α := if w = 0#32 then x else r

/-- The merge: the row where the mask row's word is nonzero, the default elsewhere. -/
def merged (row : S1x8192.Idx → Elt F .f32) (mask : S1x8192.Idx → BitVec 32) (x : S8192x8192.Idx → Elt F .f32) : S8192x8192.Idx → Elt F .f32 :=
  fun j => pick (mask (col (j 1))) (x j) (row (col (j 1)))

/-- A one-row array repeated down 256 rows, at an index. -/
theorem repeat_apply {α : Type} (v : S1x8192.Idx → α) (y : S256x8192.Idx) : broadcastTo S256x8192 v broadcasts_S1x8192_S256x8192 y = v (col (y 1)) := by
  refine congrArg v (funext fun k => ?_)
  match k with
  | ⟨0, _⟩ => rfl
  | ⟨1, _⟩ => rfl

/-- One block of it, element by element. -/
theorem pay_apply (mk : Vec F S1x8192 .i32) (row : Vec F S1x8192 .f32) (x : Vec F S256x8192 .f32) (y : S256x8192.Idx) :
    k1_pay1 mk row x y = pick (mk (col (y 1))) (x y) (row (col (y 1))) := by
  unfold k1_pay1
  simp only [shapeCast_self]
  unfold select
  rw [repeat_apply, repeat_apply]
  unfold pick cmpi Scalar.select IntOp.cmpi broadcast
  by_cases h : mk (col (y 1)) = 0#32
  · rw [if_pos h]; simp [h]
  · rw [if_neg h, show (mk (col (y 1)) != 0#32) = true from bne_iff_ne.mpr h]; rfl

variable (W : Dev nD → Valuation τ sig (Elt F))

/-- Every window's block index at a point. -/
theorem idx1 : ∀ t : Fin cfg1.N, win1_0.index t = ![0, 0] ∧ win1_1.index t = ![0, 0] ∧ win1_2.index t = ![t.val, 0] ∧ win1_3.index t = ![t.val, 0] :=
  (by decide +kernel : ∀ t : Fin grid1.N, _)

/-- The result array after the call. -/
theorem final_out (c : Dev nD) : (dat W c).arrAt 3 cfg1.N
    = merged (W c (Proc.devRef .tc main_v3)) (W c (Proc.devRef .tc main_v2)) (W c (Proc.devRef .tc main_arg0)) := by
  refine (dat W c).arrAt_eq_of_covers 3 _ (by decide +kernel) fun t hf y => ?_
  blk_simp
  obtain ⟨e0, e1, e2, e3⟩ := idx1 t
  refine (pay_apply (blk0 W c 1 t) (blk0 W c 0 t) (blk0 W c 2 t) y).trans ?_
  have q1 : (win1_1.blk t).view.emb (col (y 1)) = col ((win1_3.blk t).view.emb y 1) := by
    blk_ext [e1, e3, col]
    show (y 1).val = ((win1_3.blk t).view.emb y 1).val
    blk_simp [e3]
  have q0 : (win1_0.blk t).view.emb (col (y 1)) = col ((win1_3.blk t).view.emb y 1) := by
    blk_ext [e0, e3, col]
    show (y 1).val = ((win1_3.blk t).view.emb y 1).val
    blk_simp [e3]
  have q2 : (win1_2.blk t).view.emb y = (win1_3.blk t).view.emb y := by blk_ext [e2, e3]
  have p1 : blk0 W c 1 t (col (y 1)) = W c (Proc.devRef .tc main_v2) (col ((win1_3.blk t).view.emb y 1)) := by rw [← q1]; rfl
  have p0 : blk0 W c 0 t (col (y 1)) = W c (Proc.devRef .tc main_v3) (col ((win1_3.blk t).view.emb y 1)) := by rw [← q0]; rfl
  have p2 : blk0 W c 2 t y = W c (Proc.devRef .tc main_arg0) ((win1_3.blk t).view.emb y) := by rw [← q2]; rfl
  exact (congr (congr (congrArg pick p1) p2) p0)

/-! ## The call as a region -/

/-- No prefetched table. -/
def adm : (p : Fin 1) → (pcfgs (F := F) p).Adm := fun p => (cfgs p).toPCfg_adm

/-- The proof data of every call (there is one). -/
def pdats : (p : Fin 1) → (c : Dev nD) → Pipeline.Dat τ (Elt F) (HIx 1) ℕ UU ℕ (Pipeline.pin (pcfgs (F := F)) adm p) c
  | ⟨0, _⟩ => fun c => dat W c
  | ⟨_ + 1, h⟩ => absurd h (Nat.not_lt.2 (Nat.le_add_left _ _))

/-- The arrays after the call: the result at the merge, everything else as before. -/
def WEnd (c : Dev nD) : Valuation τ sig (Elt F) :=
  Function.update (W c) (Proc.devRef .tc main_v4) (merged (W c (Proc.devRef .tc main_v3)) (W c (Proc.devRef .tc main_v2)) (W c (Proc.devRef .tc main_arg0)))

theorem end_out (c : Dev nD) : WEnd W c (Proc.devRef .tc main_v4) = merged (W c (Proc.devRef .tc main_v3)) (W c (Proc.devRef .tc main_v2)) (W c (Proc.devRef .tc main_arg0)) :=
  Function.update_self _ _ _
theorem end_other (c : Dev nD) (b : DevRef τ sig) (h : b ≠ Proc.devRef .tc main_v4) : WEnd W c b = W c b := Function.update_of_ne h _ _

theorem end_arr (c : Dev nD) : ∀ w : Fin 4, (dat W c).arrAt w cfg1.N = WEnd W c (Proc.devRef .tc (Pipeline.arrRef spec1 w))
  | ⟨0, _⟩ => ((dat W c).arrAt_in 0 rfl _).trans (end_other W c (Proc.devRef .tc main_v3) (by decide)).symm
  | ⟨1, _⟩ => ((dat W c).arrAt_in 1 rfl _).trans (end_other W c (Proc.devRef .tc main_v2) (by decide)).symm
  | ⟨2, _⟩ => ((dat W c).arrAt_in 2 rfl _).trans (end_other W c (Proc.devRef .tc main_arg0) (by decide)).symm
  | ⟨3, _⟩ => (final_out W c).trans (end_out W c).symm
  | ⟨_ + 4, h⟩ => absurd h (Nat.not_lt.2 (Nat.le_add_left _ _))

/-- The call between host operations: its four arrays in at a valuation, out at the next, nothing owed. -/
def region : Pipeline.RegionSeg (pcfgs (F := F)) adm (pdats W) (none : HIx 1) defs₀ 𝒱₀ (K (F := F)).L (K (F := F)).lev 0 :=
  Pipeline.RegionSeg.ofHeld pcfgs adm (pdats W) none defs₀ 𝒱₀ (K (F := F)).L (K (F := F)).lev 0 (fun _ => 0) (fun _ => BI.emp) (fun _ => BI.emp)
    launch1.toP rfl (fun c => (body_obligation W c).loose) (fun _ _ => rfl) (fun _ => rfl) (fun c w => (dat W c).share_full (fun _ => rfl) w)
    (fun c => by rw [show Pipeline.scopedRest (Pipeline.pin (pcfgs (F := F)) adm 0).spec c = BI.emp from scopedRest1_eq c]; exact sep_elim_left)
    (fun c => by
      rw [show Pipeline.scopedRest (Pipeline.pin (pcfgs (F := F)) adm 0).spec c = BI.emp from scopedRest1_eq c]
      show (BI.emp : sProp 𝕄) ⊢ _
      iintro H; isplitl [H]; · iexact H
      iempintro)
    (fun _ => 0)
    { hι := fun _ _ _ => Finset.mem_univ _
      hιb := fun _ _ _ => le_of_eq rfl
      hD := fun _ _ _ h => absurd h (Nat.lt_irrefl 0) }
    (fun _ => BI.emp) W (WEnd W) (fun _ _ => rfl) (fun c w => end_arr W c w)

end Cert.Proof.Run

end
-- ==== Proof.Host.lean ====
/-
  The program on the TensorCore: the SparseCore call, the three host operations, the TensorCore call.

  Every array of the program is held throughout at a valuation: `V0` at launch, `V1` after the SparseCore call (the row filled), `V4`
  after the host operations (the mask widened and both rows reshaped), `V5` after the merge.
-/
module

public import proofs.«01_k».proof.Proof.Split
public import proofs.«01_k».proof.Proof.Region

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held held_sub_split held_congr wp_hlo_within)
open Idealize.ShloMosaic.Pipeline (ucRefs arrRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The TensorCore call, under the whole program's body table -/

theorem phinj : Function.Injective (Pipeline.cellOf (nD := nD) (τ := τ) (Pipeline.pin (pcfgs (F := F)) adm)) := launch1.toP.cellOf_inj adm

/-- The staging cells' ghost state of a core. -/
abbrev ghost (d : Dev nD) : sProp 𝕄 :=
  iprop(Pipeline.cellsGhost (Pipeline.pin (pcfgs (F := F)) adm) EP 0 d ∗ Pipeline.toksInit (Pipeline.pin (pcfgs (F := F)) adm) EP 0 d)

/-- The call as a program of the layer below, and its image in the whole program. -/
def callProg : Prog (TpuEff nD τ sig (Elt F) (Pipeline.Sig Λ₀ (Fin 1) fun p => (pcfgs (F := F) p).Adm) .tc) PUnit :=
  .op (.customCall (Pipeline.entry 0) ()) fun x => .ret x
def wholeCall : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ())
theorem lift_callProg : SparseCore.liftProg (callProg (F := F)) = wholeCall := rfl

theorem call_wp [∀ e, Nonempty (Elt F e)] (W : Dev nD → Valuation τ sig (Elt F)) (d : Dev nD) (Q : PUnit → sProp 𝕄) :
    iprop((iprop(boundary (T d) ∗ held (T d) (arrRefs spec1) (WEnd W d) ∗ ∃ Wd, owes (T d) 0 Wd) -∗ Q ⟨⟩)
        ∗ boundary (T d) ∗ (held (T d) (arrRefs spec1) (W d) ∗ ∃ Wd, owes (T d) 0 Wd) ∗ levAts (K (F := F)).L (K (F := F)).lev ∗ ghost d)
      ⊢ wp frame (wpE ((K (F := F)).defs (D (F := F))) 𝒱 (T d) none) Set.univ wholeCall Q := by
  have hl := (K (F := F)).wp_liftProg (N := 1) (D (F := F)) 𝒱 (T d) Set.univ none callProg Q
  rw [lift_callProg] at hl
  refine BIBase.Entails.trans ?_ hl
  have hw := Pipeline.RegionSeg.wp (pcfgs (F := F)) adm (pdats W) none phinj EP defs₀ 𝒱₀ (K (F := F)).L (K (F := F)).lev (region W) d none
    (fun u hu => nomatch hu) (fun x => .ret x) Q
  refine BIBase.Entails.trans ?_ hw
  iintro ⟨Hk, Hb, ⟨Hh, Ho⟩, Hl, Hg, Ht⟩
  isplitl [Hk]
  · iintro ⟨Hb, Hp⟩
    rw [wp_ret]; imodintro
    iapply Hk
    isplitl [Hb]; · iexact Hb
    ihave Hp' := (show (region W).post d ⊢ iprop(held (T d) (arrRefs spec1) (WEnd W d) ∗ BI.emp ∗ BI.emp ∗ ∃ Wd, owes (T d) 0 Wd) from BI.Entails.refl _) $$ Hp
    icases Hp' with ⟨Hh, -, -, Ho⟩
    isplitl [Hh] <;> iassumption
  isplitl [Hb]; · iexact Hb
  isplitl [Hh Ho]
  · iapply (show iprop(held (T d) (arrRefs spec1) (W d) ∗ BI.emp ∗ BI.emp ∗ ∃ Wd, owes (T d) 0 Wd) ⊢ (region W).pre d from BI.Entails.refl _)
    isplitl [Hh]; · iexact Hh
    isplitr; · iempintro
    isplitr; · iempintro
    iexact Ho
  isplitl [Hl]; · iexact Hl
  isplitl [Hg] <;> iassumption

/-! ## What the TensorCore owes once its one SparseCore call is done: nothing -/

/-- Its handshake state after the call, what it owes apart. -/
def tcRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom 1) fun q : Fin 1 => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem below_all (d : Dev nD) (W : Waits sig (HIx 1)) : (K (F := F)).WBelow (T d) W (8 * 1) := fun p _ => by
  match p with
  | (g, none) => exact Nat.zero_le _
  | (g, some q) =>
    have hq := q.isLt
    exact ((K (F := F)).lev_some_le (T d, g) q).trans (by omega)

theorem tcSt_open (d : Dev nD) : ((K (F := F)).tcSt (EH (F := F)) d 1 : sProp 𝕄) ⊢ iprop((∃ W, owes (T d) 0 W) ∗ tcRest d) := by
  unfold SparseCore.Cfg.tcSt tcRest
  rw [(K (F := F)).Otc_end d (n := 1) (Nat.le_refl 1)]
  iintro ⟨⟨%W, -, HO⟩, H⟩
  isplitl [HO]; · iexists W; iexact HO
  iexact H

theorem tcSt_close (d : Dev nD) : iprop((∃ W, owes (T d) 0 W) ∗ tcRest d) ⊢ ((K (F := F)).tcSt (EH (F := F)) d 1 : sProp 𝕄) := by
  unfold SparseCore.Cfg.tcSt tcRest
  rw [(K (F := F)).Otc_end d (n := 1) (Nat.le_refl 1)]
  iintro ⟨⟨%W, HO⟩, H⟩
  isplitl [HO]
  · iexists W
    isplitr; · ipureintro; exact below_all d W
    iexact HO
  iexact H

/-! ## The valuations -/

variable (m : (ℓ : Loc nD τ sig) → Buf (Elt F) ℓ)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev opWide : HloOp τ sig (Elt F) := StableHlo.unary main_arg1 main_v1 (extui 32 · natLt_1_32)
abbrev opMask : HloOp τ sig (Elt F) := StableHlo.reshape main_v1 main_v2 (rfl : (.i32 : EltTy) = .i32) shapeCasts_S8192_S1x8192
abbrev opRow : HloOp τ sig (Elt F) := StableHlo.reshape main_v0 main_v3 (rfl : (.f32 : EltTy) = .f32) shapeCasts_S8192_S1x8192

def V0 (d : Dev nD) : Valuation τ sig (Elt F) := fun b => m (d, b)
def V1 (d : Dev nD) : Valuation τ sig (Elt F) := Function.update (V0 m d) v0' (rowVal m d)
def V4 (d : Dev nD) : Valuation τ sig (Elt F) := (opRow (F := F)).result ((opMask (F := F)).result ((opWide (F := F)).result (V1 m d)))
def V5 (d : Dev nD) : Valuation τ sig (Elt F) := WEnd (V4 m) d

/-- The three arrays the SparseCore call works on. -/
abbrev S3 : Finset (DevRef τ sig) := {a3', a2', v0'}
/-- The four arguments and the result. -/
abbrev S5 : Finset (DevRef τ sig) := {a0', a1', a2', a3', v4'}

theorem S3_sub : S3 ⊆ ucRefs τ sig := by decide
theorem S5_sub : S5 ⊆ ucRefs τ sig := by decide
theorem arr_sub : arrRefs (τ := τ) spec1 ⊆ ucRefs τ sig := by decide
theorem hWide : (opWide (F := F)).bufs ⊆ ucRefs τ sig := show ({a1', v1'} : Finset (DevRef τ sig)) ⊆ ucRefs τ sig by decide
theorem hMask : (opMask (F := F)).bufs ⊆ ucRefs τ sig := show ({v1', v2'} : Finset (DevRef τ sig)) ⊆ ucRefs τ sig by decide
theorem hRow : (opRow (F := F)).bufs ⊆ ucRefs τ sig := show ({v0', v3'} : Finset (DevRef τ sig)) ⊆ ucRefs τ sig by decide

theorem held_S3 (d : Dev nD) (W : Valuation τ sig (Elt F)) :
    (held (T d) S3 W : sProp 𝕄) = iprop((pLoc d ↦{fullShare} W a3') ∗ (iLoc d ↦{fullShare} W a2') ∗ oLoc d ↦{fullShare} W v0') := by
  unfold held S3
  rw [SparseCore.bigSep_insert' (by decide), SparseCore.bigSep_insert' (by decide), bigSep_singleton]

/-- Nothing but the row changes in the SparseCore call. -/
theorem V1_row (d : Dev nD) : V1 m d v0' = rowVal m d := Function.update_self _ _ _
theorem V1_other (d : Dev nD) (b : DevRef τ sig) (h : b ≠ v0') : V1 m d b = m (d, b) := Function.update_of_ne h _ _

theorem V4_kept (d : Dev nD) (b : DevRef τ sig) (h0 : b ≠ v0') (h1 : b ∉ ({v1'} : Finset (DevRef τ sig))) (h2 : b ∉ ({v2'} : Finset (DevRef τ sig)))
    (h3 : b ∉ ({v3'} : Finset (DevRef τ sig))) : V4 m d b = m (d, b) := by
  unfold V4
  rw [(opRow (F := F)).result_of_not_mem _ h3, (opMask (F := F)).result_of_not_mem _ h2, (opWide (F := F)).result_of_not_mem _ h1, V1_other m d b h0]

theorem V5_kept (d : Dev nD) (b : DevRef τ sig) (h0 : b ≠ v0') (h1 : b ∉ ({v1'} : Finset (DevRef τ sig))) (h2 : b ∉ ({v2'} : Finset (DevRef τ sig)))
    (h3 : b ∉ ({v3'} : Finset (DevRef τ sig))) (h4 : b ≠ v4') : V5 m d b = m (d, b) :=
  (end_other (V4 m) d b h4).trans (V4_kept m d b h0 h1 h2 h3)

/-- The result array of the program. -/
def outVal (d : Dev nD) : S8192x8192.Idx → Elt F .f32 :=
  merged (shapeCast S1x8192 (show S8192.Idx → Elt F .f32 from rowVal m d) shapeCasts_S8192_S1x8192)
    (shapeCast S1x8192 (extui 32 (show S8192.Idx → BitVec 1 from m (d, a1')) natLt_1_32) shapeCasts_S8192_S1x8192) (show S8192x8192.Idx → Elt F .f32 from m (d, a0'))

theorem V4_row (d : Dev nD) : V4 m d v3' = shapeCast S1x8192 (show S8192.Idx → Elt F .f32 from rowVal m d) shapeCasts_S8192_S1x8192 := by
  unfold V4
  refine (StableHlo.reshape_result main_v0 main_v3 _ _ _ _ _).trans ?_
  rw [(opMask (F := F)).result_of_not_mem _ (show v0' ∉ ({v2'} : Finset (DevRef τ sig)) by decide),
    (opWide (F := F)).result_of_not_mem _ (show v0' ∉ ({v1'} : Finset (DevRef τ sig)) by decide), V1_row]
  rfl

theorem V4_mask (d : Dev nD) : V4 m d v2' = shapeCast S1x8192 (extui 32 (show S8192.Idx → BitVec 1 from m (d, a1')) natLt_1_32) shapeCasts_S8192_S1x8192 := by
  unfold V4
  rw [(opRow (F := F)).result_of_not_mem _ (show v2' ∉ ({v3'} : Finset (DevRef τ sig)) by decide)]
  refine (StableHlo.reshape_result main_v1 main_v2 _ _ _ _ _).trans ?_
  rw [show (opWide (F := F)).result (V1 m d) v1' = extui 32 (show S8192.Idx → BitVec 1 from V1 m d a1') natLt_1_32 from StableHlo.unary_result _ _ _ _ _ _,
    V1_other m d a1' (by decide)]
  rfl

theorem V5_out (d : Dev nD) : V5 m d v4' = outVal m d := by
  refine (end_out (V4 m) d).trans ?_
  rw [V4_row, V4_mask, V4_kept m d a0' (by decide) (by decide) (by decide) (by decide)]
  rfl

/-! ## @main on the TensorCore -/

/-- What the run leaves the claims: the four arguments and the result. -/
abbrev FIN (d : Dev nD) : sProp 𝕄 := held (T d) S5 (V5 m d)

/-- Into the SparseCore call. -/
theorem enter_call (d : Dev nD) : (held (T d) (ucRefs τ sig) (V0 m d) : sProp 𝕄)
    ⊢ iprop(pRest d (m (pLoc d)) ∗ (bigSep Finset.univ fun c : Fin ((K (F := F)).nCore 0) => (P m).st 0 d c) ∗ held (T d) (ucRefs τ sig \ S3) (V0 m d)) := by
  rw [held_sub_split (T d) S3_sub, held_S3]
  refine BIBase.Entails.trans (BI.sep_mono (call_split m d) (BI.Entails.refl _)) ?_
  exact BI.sep_assoc

/-- And out of it. -/
theorem leave_call (d : Dev nD) :
    iprop(pRest d (m (pLoc d)) ∗ (bigSep Finset.univ fun c : Fin ((K (F := F)).nCore 0) => (P m).dn 0 d c) ∗ held (T d) (ucRefs τ sig \ S3) (V0 m d))
      ⊢ (held (T d) (ucRefs τ sig) (V1 m d) : sProp 𝕄) := by
  rw [held_sub_split (T d) S3_sub (V1 m d), held_S3, V1_row, V1_other m d a3' (by decide), V1_other m d a2' (by decide),
    held_congr (T d) (S := ucRefs τ sig \ S3) (V := V1 m d) (V' := V0 m d)
      (fun b hb => V1_other m d b fun h => (Finset.mem_sdiff.mp hb).2 (h ▸ (by decide : v0' ∈ S3)))]
  iintro ⟨Hp, Hd, Hrest⟩
  isplitl [Hp Hd]
  · iapply (call_join m d)
    isplitl [Hp] <;> iassumption
  iexact Hrest

/-- The TensorCore call with every array held. -/
theorem merge_wp [∀ e, Nonempty (Elt F e)] (d : Dev nD) (Q : PUnit → sProp 𝕄) :
    iprop((iprop(boundary (T d) ∗ held (T d) (ucRefs τ sig) (V5 m d) ∗ ∃ Wd, owes (T d) 0 Wd) -∗ Q ⟨⟩)
        ∗ boundary (T d) ∗ held (T d) (ucRefs τ sig) (V4 m d) ∗ (∃ Wd, owes (T d) 0 Wd) ∗ levAts (K (F := F)).L (K (F := F)).lev ∗ ghost d)
      ⊢ wp frame (wpE ((K (F := F)).defs (D (F := F))) 𝒱 (T d) none) Set.univ wholeCall Q := by
  rw [held_sub_split (T d) arr_sub (V4 m d), held_sub_split (T d) arr_sub (V5 m d),
    held_congr (T d) (S := ucRefs τ sig \ arrRefs spec1) (V := V5 m d) (V' := V4 m d)
      (fun b hb => end_other (V4 m) d b fun h => (Finset.mem_sdiff.mp hb).2 (h ▸ (by decide : v4' ∈ arrRefs (τ := τ) spec1)))]
  iintro ⟨Hk, Hb, ⟨Ha, Hrest⟩, Ho, Hl, Hg⟩
  iapply (call_wp (V4 m) d Q)
  isplitl [Hk Hrest]
  · iintro ⟨Hb, Ha, Ho⟩
    iapply Hk
    isplitl [Hb]; · iexact Hb
    isplitl [Ha Hrest]
    · isplitl [Ha]; · iexact Ha
      iexact Hrest
    iexact Ho
  isplitl [Hb]; · iexact Hb
  isplitl [Ha Ho]
  · isplitl [Ha] <;> iassumption
  isplitl [Hl] <;> iassumption

theorem unscoped_V0 (d : Dev nD) : (unscopedBufs d (fun b => m (d.tc.loc b)) : sProp 𝕄) = held (T d) (ucRefs τ sig) (V0 m d) := by
  refine Eq.trans ?_ (Pipeline.unscopedBufs_held d (V0 m d))
  refine congrArg (unscopedBufs d) (funext fun b => ?_)
  rfl

/-- @main on device `d`'s TensorCore. -/
theorem hmain [∀ e, Nonempty (Elt F e)] (ρ : Dev nD → PrngReg) (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_V0]
  simp only [main, wp_bind, wp_pure]
  iintro ⟨#Hctx, Hst, ⟨Hb, Hheld, Hts, -⟩, HG⟩
  ihave Hh := (enter_call m d) $$ Hheld
  icases Hh with ⟨Hp, Hs, Hrest⟩
  iapply ((K (F := F)).wp_run (D (F := F)) 𝒱 (EH := EH) (P := P m) κ d 0) $$ [Hst Hs Hp Hrest Hb Hts HG]
  isplitr; · iexact Hctx
  isplitl [Hst]; · iexact Hst
  isplitl [Hs]; · iexact Hs
  iintro ⟨Hst, Hdn⟩
  ihave Hheld := (leave_call m d) $$ [Hp Hdn Hrest]
  · isplitl [Hp]; · iexact Hp
    isplitl [Hdn] <;> iassumption
  iapply (wp_hlo_within 𝒱 (T d) none Set.univ (op := opWide) (S := ucRefs τ sig) hWide (V := V1 m d)) $$ [Hb Hheld]
  · isplitl [Hb] <;> iassumption
  iintro ⟨Hb, Hheld⟩
  rw [wp_ret]; imodintro
  iapply (wp_hlo_within 𝒱 (T d) none Set.univ (op := opMask) (S := ucRefs τ sig) hMask (V := (opWide (F := F)).result (V1 m d))) $$ [Hb Hheld]
  · isplitl [Hb] <;> iassumption
  iintro ⟨Hb, Hheld⟩
  rw [wp_ret]; imodintro
  iapply (wp_hlo_within 𝒱 (T d) none Set.univ (op := opRow) (S := ucRefs τ sig) hRow (V := (opMask (F := F)).result ((opWide (F := F)).result (V1 m d)))) $$ [Hb Hheld]
  · isplitl [Hb] <;> iassumption
  iintro ⟨Hb, Hheld⟩
  rw [wp_ret]; imodintro
  ihave Hst' := ((Entails.of_eq (rfl : (K (F := F)).tcSt EH d ((0 : Fin 1).val + 1) = (K (F := F)).tcSt EH d 1)).trans (tcSt_open d)) $$ Hst
  icases Hst' with ⟨Ho, Hst⟩
  ihave Hl := (SparseCore.Cfg.ctx_levAts κ) $$ Hctx
  iapply (merge_wp m d _)
  isplitl [Hst Hts]
  · iintro ⟨Hb, Hheld, Ho⟩
    imodintro
    isplitl [Hst Ho]
    · iapply (tcSt_close d)
      isplitl [Ho] <;> iassumption
    isplitl [Hheld]
    · ihave Hh := (Entails.of_eq (held_sub_split (T d) S5_sub (V5 m d))) $$ Hheld
      icases Hh with ⟨Hh, -⟩
      iexact Hh
    isplitl [Hb] <;> iassumption
  isplitl [Hb]; · iexact Hb
  isplitl [Hheld]; · iexact Hheld
  isplitl [Ho]; · iexact Ho
  isplitl [Hl] <;> iassumption

end Cert.Proof.Run

end
-- ==== Proof.Launch.lean ====
/-
  The launch: what the final state holds, the initial ghost state, and the run of the whole program.
-/
module

public import proofs.«01_k».proof.Proof.Tile
public import proofs.«01_k».proof.Proof.Host

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## What the final state holds -/

theorem held_S5 (d : Dev nD) (W : Valuation τ sig (Elt F)) :
    (held (T d) S5 W : sProp 𝕄) = iprop((((d, a0') : Loc nD τ sig) ↦{fullShare} W a0') ∗ (((d, a1') : Loc nD τ sig) ↦{fullShare} W a1')
      ∗ (((d, a2') : Loc nD τ sig) ↦{fullShare} W a2') ∗ (((d, a3') : Loc nD τ sig) ↦{fullShare} W a3') ∗ ((d, v4') : Loc nD τ sig) ↦{fullShare} W v4') := by
  unfold held S5
  rw [SparseCore.bigSep_insert' (by decide), SparseCore.bigSep_insert' (by decide), SparseCore.bigSep_insert' (by decide), SparseCore.bigSep_insert' (by decide), bigSep_singleton]

/-- The arguments as launched, the result at its value. -/
def fq (d : Dev nD) (s' : Phys nD τ sig (Elt F)) : Prop :=
  s'.mem.mem (d, a0') = m (d, a0') ∧ s'.mem.mem (d, a1') = m (d, a1') ∧ s'.mem.mem (d, a2') = m (d, a2') ∧ s'.mem.mem (d, a3') = m (d, a3')
    ∧ s'.mem.mem (d, v4') = outVal m d

/-- A buffer held whole reads back what it is held at; the buffer itself is dropped. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  rw [held_S5, V5_out, V5_kept m d a0' (by decide) (by decide) (by decide) (by decide) (by decide), V5_kept m d a1' (by decide) (by decide) (by decide) (by decide) (by decide),
    V5_kept m d a2' (by decide) (by decide) (by decide) (by decide) (by decide), V5_kept m d a3' (by decide) (by decide) (by decide) (by decide) (by decide)]
  iintro ⟨⟨H0, H1, H2, H3, H4⟩, HSI⟩
  ihave H := (read_whole (d, a0') (m (d, a0')) s') $$ [HSI H0]
  · isplitl [H0] <;> iassumption
  icases H with ⟨%h0, HSI⟩
  ihave H := (read_whole (d, a1') (m (d, a1')) s') $$ [HSI H1]
  · isplitl [H1] <;> iassumption
  icases H with ⟨%h1, HSI⟩
  ihave H := (read_whole (d, a2') (m (d, a2')) s') $$ [HSI H2]
  · isplitl [H2] <;> iassumption
  icases H with ⟨%h2, HSI⟩
  ihave H := (read_whole (d, a3') (m (d, a3')) s') $$ [HSI H3]
  · isplitl [H3] <;> iassumption
  icases H with ⟨%h3, HSI⟩
  ihave H := (read_whole (d, v4') (outVal m d) s') $$ [HSI H4]
  · isplitl [H4] <;> iassumption
  icases H with ⟨%h4, -⟩
  ipureintro; exact ⟨h0, h1, h2, h3, h4⟩

/-! ## The initial ghost state -/

/-- The handshakes' cells, the staging cells, no counter yet. -/
def u₀ : UU :=
  (initOf (K (F := F)).hsCells (K (F := F)).hsToks,
    (initOf (Pipeline.cells (nD := nD) (τ := τ) (Pipeline.pin (pcfgs (F := F)) adm) phinj) (Pipeline.launchToks (nD := nD) (τ := τ) (Pipeline.pin (pcfgs (F := F)) adm) phinj), 1))

theorem bigSep_emp' {I : Type} (s : Finset I) : (bigSep s fun _ => iprop(emp)) = (iprop(emp) : sProp 𝕄) := bigSep_emp_const s

theorem own_rest (a : UP) (b : Counters) : (BI.own ((embR : Emb (UP × Counters) 𝕄) (a, b)) : sProp 𝕄) ⊢ iprop(BI.own (EP a) ∗ BI.own (((Emb.inr : Emb Counters (UP × Counters)).trans embR) b)) := by
  unfold EP
  exact own_pair_emb (embR : Emb (UP × Counters) 𝕄) a b

/-- Of one pipeline, everything is pipeline 0's. -/
theorem one (Φ : Fin 1 → sProp 𝕄) : Φ 0 = bigSep Finset.univ Φ := (bigSep_univ_of_subsingleton (0 : Fin 1)).symm

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_rest _ _) $$ HR
  icases H with ⟨HP, -⟩
  imod (Pipeline.fund_ghost (nD := nD) (τ := τ) (Pipeline.pin (pcfgs (F := F)) adm) EP phinj) $$ HP with ⟨Hc, Ht⟩
  imodintro
  isplitl [HH]; · iexact HH
  isplitl [Hc Ht]
  · rw [bigSep_sep']
    isplitl [Hc]
    · rw [show (bigSep Finset.univ fun d : Dev nD => Pipeline.cellsGhost (Pipeline.pin (pcfgs (F := F)) adm) EP 0 d)
        = (bigSep Finset.univ fun d : Dev nD => bigSep Finset.univ fun p => Pipeline.cellsGhost (Pipeline.pin (pcfgs (F := F)) adm) EP p d) from
        bigSep_congr fun d _ => one fun p => Pipeline.cellsGhost (Pipeline.pin (pcfgs (F := F)) adm) EP p d]
      iexact Hc
    · rw [show (bigSep Finset.univ fun d : Dev nD => Pipeline.toksInit (Pipeline.pin (pcfgs (F := F)) adm) EP 0 d)
        = (bigSep Finset.univ fun d : Dev nD => bigSep Finset.univ fun p => Pipeline.toksInit (Pipeline.pin (pcfgs (F := F)) adm) EP p d) from
        bigSep_congr fun d _ => one fun p => Pipeline.toksInit (Pipeline.pin (pcfgs (F := F)) adm) EP p d]
      iexact Ht
  rw [show (bigSep Finset.univ fun thr : Thread nD τ => bigSep Finset.univ fun q : Fin 1 => (P m).x q thr) = bigSep Finset.univ fun _ => iprop(emp) from
    bigSep_congr fun thr _ => (one fun q => (P m).x q thr).symm, bigSep_emp']
  iempintro

/-! ## The run -/

/-- On every device: the arguments unchanged, the result at its value, every semaphore at zero. -/
def QC : PUnit × MemSt nD τ sig (Elt F) → Prop := fun r =>
  (∀ d : Dev nD, r.2.mem (d, a0') = m (d, a0') ∧ r.2.mem (d, a1') = m (d, a1') ∧ r.2.mem (d, a2') = m (d, a2') ∧ r.2.mem (d, a3') = m (d, a3')
    ∧ r.2.mem (d, v4') = outVal m d) ∧ r.2.sem = fun _ => 0

theorem run_main [∀ e, Nonempty (Elt F e)] (ρ : Dev nD → PrngReg)
    (hids : ∀ d, ∀ j : S4096.Idx, ((show S4096.Idx → BitVec 32 from m (d, a2')) j).toNat < 2048) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hids)
    (fun q _ => match q with | 0 => SparseCore.Cfg.VecSplit.of_plain (vecSplit m))
    m ρ main ghost (FIN m) (u₀ (F := F)) (sep_elim_left.trans (hu₀ m)) (hmain m ρ) (fq m) (hfin m) (QC m) (fun _ h hz => ⟨h, hz⟩)

end Cert.Proof.Run

end
-- ==== Proof.RefStages.lean ====
/-
  The reference's result as a chain of short functions on its four arguments.
-/
module

public import proofs.«01_k».proof.Proof.Gen.ReferenceIdeal.Run
public import Idealize.ShloMosaic.Lib.Routing.Model

@[expose] public section

noncomputable section

namespace Cert.Proof.Ref

open Cert.ReferenceIdeal Cert.ReferenceIdeal.Gen Idealize.ShloMosaic Idealize.ShloMosaic.TcCoe

variable {F : FTy → Type} [FloatOps F]

/-- Negative indices counted from the end `n`, as an indexing prints it. -/
def wrapped {s : Shape} (hb : S_.BroadcastsInDim s (![] : Fin 0 → Fin s.rank)) (n : BitVec 32) (x : IVec s 32) : IVec s 32 :=
  select (cmpi .slt x (broadcastInDim s ![] hb (constantI S_ 32 0#32))) (addi x (broadcastInDim s ![] hb (constantI S_ 32 n))) x

/-- The running count of masked columns. -/
def slot (msk : IVec S8192 1) : IVec S8192 32 :=
  Host.reduceWindow IntOp.addi ![8192] ![1] ![8191] ![0] (extui 32 msk natLt_1_32) (broadcastInDim S_ ![] bcast_S_S_ (constantI S_ 32 0#32))
    reduceWindows_S8192_S8192_w8192s1p8191_0 h_S_

/-- How many columns have each running count. -/
def hits (msk : IVec S8192 1) : IVec S4096 32 :=
  Host.scatter scatter_S4096_S8192x1_S8192_n_0_0_1 IntOp.addi (broadcastInDim S4096 ![] bcast_S_S4096 (constantI S_ 32 0#32))
    (broadcastInDim S8192x1 ![0] bcast_S8192_S8192x1_0 (wrapped bcast_S_S8192 4096#32 (slot msk))) (broadcastInDim S8192 ![] bcast_S_S8192 (constantI S_ 32 1#32))

/-- The position of each masked column, by rank. -/
def place (msk : IVec S8192 1) : IVec S4096 32 :=
  Host.reduceWindow IntOp.addi ![4096] ![1] ![4095] ![0] (hits msk) (broadcastInDim S_ ![] bcast_S_S_ (constantI S_ 32 0#32))
    reduceWindows_S4096_S4096_w4096s1p4095_0 h_S_

/-- The position read back as a column number. -/
def column (msk : IVec S8192 1) : IVec S4096 32 :=
  Routing.pyRem bcast_S_S4096 (Routing.pyDiv bcast_S_S4096 (place msk) (id (constantI S_ 32 1#32))) (id (constantI S_ 32 8192#32))

/-- How many columns are masked. -/
def total (msk : IVec S8192 1) : IVec S_ 32 := Host.reduce IntOp.addi (extui 32 msk natLt_1_32) (constantI S_ 32 0#32) reducesTo_S8192_S_d0 h_S_

/-- The columns to write, those past the number of masked ones put at zero. -/
def targets (msk : IVec S8192 1) : IVec S4096 32 :=
  select (cmpi .sge (iotaInDim S4096 32 0) (broadcastInDim S4096 ![0] bcast_S1_S4096_0 (broadcastInDim S1 ![] bcast_S_S1 (total msk))))
    (broadcastInDim S4096 ![] bcast_S_S4096 (id (constantI S_ 32 0#32))) (column msk)

/-- The index words as a column. -/
def ids1 (ids : IVec S4096 32) : IVec S4096x1 32 := broadcastInDim S4096x1 ![0] bcast_S4096_S4096x1_0 (wrapped bcast_S_S4096 2048#32 ids)

/-- Which index words name an entry of the table. -/
def inside (ids : IVec S4096 32) : IVec S4096 1 :=
  Host.reduce IntOp.andi (andi (cmpi .sge (ids1 ids) (broadcastInDim S4096x1 ![] bcast_S_S4096x1 (constantI S_ 32 0#32)))
      (cmpi .sle (ids1 ids) (broadcastInDim S4096x1 ![0, 1] bcast_S1x1_S4096x1_0_1 (broadcastInDim S1x1 ![1] bcast_S1_S1x1_1 (constantI S1 32 2047#32)))))
    (constantI S_ 1 1#1) reducesTo_S4096x1_S4096_d1 h_S_

/-- The parameters that the index words name. -/
def taken (ids : IVec S4096 32) (params : FVec F S2048 .f32) : FVec F S4096 .f32 :=
  select (inside ids) (Host.gather gather_S2048_S4096x1_S4096_n_0_n_n_0_1_1 params (ids1 ids)) (broadcastInDim S4096 ![] bcast_S_S4096 (constant S_ .f32 0x7FC00000#32))

/-- The result. -/
def result (x : FVec F S8192x8192 .f32) (msk : IVec S8192 1) (ids : IVec S4096 32) (params : FVec F S2048 .f32) : FVec F S8192x8192 .f32 :=
  Host.scatter scatter_S8192x8192_S4096x1_S8192x4096_0_1_1_1 (fun _ b => b) x
    (broadcastInDim S4096x1 ![0] bcast_S4096_S4096x1_0 (wrapped bcast_S_S4096 8192#32 (targets msk)))
    (broadcastInDim S8192x4096 ![0, 1] bcast_S1x4096_S8192x4096_0_1 (broadcastInDim S1x4096 ![1] bcast_S4096_S1x4096_1 (taken ids params)))

theorem res_eq (m : (ℓ : Loc nD τ sig) → Buf (Elt F) ℓ) (c : Dev nD) :
    Value.res_main_v29 m c = result (m ((c.tc : Thread nD τ).loc main_arg0)) (m ((c.tc : Thread nD τ).loc main_arg1)) (m ((c.tc : Thread nD τ).loc main_arg2))
      (m ((c.tc : Thread nD τ).loc main_arg3)) := by
  unfold Value.res_main_v29 result taken inside ids1 targets total column
  unfold Routing.pyRem Routing.pyDiv Routing.divGuard place hits slot wrapped
  rfl

end Cert.Proof.Ref

end
-- ==== Proof.Pairs.lean ====
/-
  Counting a property of the numbers under 8192 that exactly one of every two neighbours (2k, 2k + 1) has: the place of its k-th number.
-/
module

public import Idealize.ShloMosaic.Lib.Routing.Count

@[expose] public section

namespace Cert.Proof.Pairs

open Idealize.ShloMosaic.Routing

/-- Exactly one number of every pair has the property. -/
def OneOfPair (P : Nat → Prop) : Prop := ∀ k, k < 4096 → (P (2 * k) ↔ ¬ P (2 * k + 1))

variable {P : Nat → Prop} [DecidablePred P] (hP : OneOfPair P)

/-- The number of pair `k` that has the property. -/
def pos (P : Nat → Prop) [DecidablePred P] (k : Nat) : Nat := if P (2 * k) then 2 * k else 2 * k + 1

include hP

theorem count_pairs (k : Nat) (hk : k ≤ 4096) : Nat.count P (2 * k) = k := by
  induction k with
  | zero => simp
  | succ k ih =>
    have h := hP k (by omega)
    rw [show 2 * (k + 1) = 2 * k + 1 + 1 by omega, Nat.count_succ, Nat.count_succ, ih (by omega)]
    by_cases h0 : P (2 * k)
    · rw [if_pos h0, if_neg (h.1 h0)]
    · rw [if_neg h0, if_pos (by by_contra h1; exact h0 (h.2 h1))]

theorem has_pos (k : Nat) (hk : k < 4096) : P (pos P k) := by
  unfold pos
  split
  · assumption
  · next h => by_contra h1; exact h ((hP k hk).2 h1)

theorem count_pos (k : Nat) (hk : k < 4096) : Nat.count P (pos P k) = k := by
  unfold pos
  split
  · exact count_pairs hP k (by omega)
  · next h => rw [Nat.count_succ, count_pairs hP k (by omega), if_neg h, Nat.add_zero]

theorem pos_half (j : Nat) (hj : j < 8192) (h : P j) : pos P (j / 2) = j := by
  unfold pos
  have h2 := hP (j / 2) (by omega)
  rcases Nat.mod_two_eq_zero_or_one j with e | e
  · rw [show 2 * (j / 2) = j by omega, if_pos h]
  · rw [show 2 * (j / 2) + 1 = j by omega] at h2 ⊢
    exact if_neg fun h0 => h2.1 h0 h

omit hP in
theorem half_pos (k : Nat) : pos P k / 2 = k := by
  unfold pos
  split <;> omega

omit hP in
theorem pos_lt (k : Nat) (hk : k < 4096) : pos P k < 8192 := by
  unfold pos
  split <;> omega

/-- How many numbers come before the one of rank `k`: its place. -/
theorem count_le (k : Nat) (hk : k < 4096) : Nat.count (fun j => Nat.count P (j + 1) ≤ k) 8192 = pos P k := by
  have hdown : ∀ a b, a ≤ b → b < 8192 → Nat.count P (b + 1) ≤ k → Nat.count P (a + 1) ≤ k := fun a b hab _ h =>
    (Nat.count_monotone P (by omega : a + 1 ≤ b + 1)).trans h
  have hlt := pos_lt (P := P) k hk
  have hno := (lt_count_iff (N := 8192) (Q := fun j => Nat.count P (j + 1) ≤ k) hdown hlt).not
  have h1 : ¬ Nat.count P (pos P k + 1) ≤ k := by
    rw [Nat.count_succ, count_pos hP k hk, if_pos (has_pos hP k hk)]
    omega
  have h2 := hno.1 h1
  rcases Nat.eq_zero_or_pos (pos P k) with h0 | h0
  · omega
  · have hyes := (lt_count_iff (N := 8192) (Q := fun j => Nat.count P (j + 1) ≤ k) hdown (show pos P k - 1 < 8192 by omega)).1
      (by show Nat.count P (pos P k - 1 + 1) ≤ k; rw [Nat.sub_add_cancel h0, count_pos hP k hk])
    omega

end Cert.Proof.Pairs
-- ==== Proof.Lands.lean ====
/-
  Where the updates of the reference's two scatters land: one index word per update of a vector, and one index word per column of updates
  of a matrix. Both index words are read signed, nothing is asked of them.
-/
module

public import Idealize.ShloMosaic.Lib.Routing.OpsSet

@[expose] public section

namespace Cert.Proof.Lands

open Idealize.ShloMosaic Idealize.ShloMosaic.Routing Idealize.ShloMosaic.ValueIdx

/-! ## A vector -/

section Vector
variable {M N : Nat} (d : ScatterDims (shape1 N) (shape2 M 1) (shape1 M))

/-- The index entry that update `i` reads. -/
theorem entry_si (hsd : d.scatterDimsToOperandDims = [0]) (hivd : d.indexVectorDim = 1) (i : Fin M) (c : Fin d.scatterDimsToOperandDims.length) :
    d.siIdx (ix1 i) c = ValueIdx.ix2 i (0 : Fin 1) := by
  have hc : c.val = 0 := by have := c.isLt; simp only [hsd, List.length_singleton] at this; omega
  have first : ∀ X : Fin 1, (ix1 i X).val = i.val := fun X => by rw [Subsingleton.elim X 0]
  funext b
  refine Fin.ext ?_
  unfold ScatterDims.siIdx
  match b with
  | ⟨0, _⟩ =>
    rw [dif_neg (by rw [hivd]; exact Nat.zero_ne_one)]
    simp only [ScatterDims.siCoord, Fin.val_cast]
    exact first _
  | ⟨1, _⟩ =>
    rw [dif_pos (by rw [hivd])]
    exact hc

/-- Update `i` lands at the entry its index word names. -/
theorem entry_iff (hiw : d.insertedWindowDims = [0]) (hsd : d.scatterDimsToOperandDims = [0]) (hivd : d.indexVectorDim = 1) (idx : IVec (shape2 M 1) 32)
    (i : Fin M) (x : Fin N) : d.resultIdx? (ix1 i) idx = some (ix1 x) ↔ (idx (ValueIdx.ix2 i (0 : Fin 1))).toInt = (x.val : Int) := by
  have hwin : d.window (ix1 i) 0 = 0 := dif_neg fun h => by
    have := of_decide_eq_true (List.mem_filter.1 h).2
    rw [hiw] at this
    exact this (List.mem_singleton_self _)
  have hstart : d.start (ix1 i) idx 0 = (idx (ValueIdx.ix2 i (0 : Fin 1))).toInt :=
    (dif_pos (by rw [hsd]; exact List.mem_singleton_self _)).trans (congrArg (fun t => (idx t).toInt) (entry_si d hsd hivd i _))
  rw [resultIdx?_ix1, hwin, hstart]
  simp

end Vector

/-! ## A column of a matrix -/

section Column
variable {R C M : Nat} (d : ScatterDims (shape2 R C) (shape2 M 1) (shape2 R M))

/-- The index entry that the updates of column `k` read. -/
theorem column_si (huw : d.updateWindowDims = [0]) (hsd : d.scatterDimsToOperandDims = [1]) (hivd : d.indexVectorDim = 1) (r : Fin R) (k : Fin M)
    (c : Fin d.scatterDimsToOperandDims.length) : d.siIdx (ValueIdx.ix2 r k) c = ValueIdx.ix2 k (0 : Fin 1) := by
  have hc : c.val = 0 := by have := c.isLt; simp only [hsd, List.length_singleton] at this; omega
  have second : ∀ X ∈ d.uScatter, (ValueIdx.ix2 r k X).val = k.val := fun X hX => by
    have hX' := of_decide_eq_true (List.mem_filter.1 hX).2
    rw [huw] at hX'
    match X with
    | ⟨0, _⟩ => exact (hX' (List.mem_singleton_self _)).elim
    | ⟨1, _⟩ => rfl
  funext b
  refine Fin.ext ?_
  unfold ScatterDims.siIdx
  match b with
  | ⟨0, _⟩ =>
    rw [dif_neg (by rw [hivd]; exact Nat.zero_ne_one)]
    simp only [ScatterDims.siCoord, Fin.val_cast]
    exact second _ (List.getElem_mem _)
  | ⟨1, _⟩ =>
    rw [dif_pos (by rw [hivd])]
    exact hc

/-- The update of row `r'` in column `k` lands in row `r'` of the column that index word `k` names. -/
theorem column_iff (huw : d.updateWindowDims = [0]) (hiw : d.insertedWindowDims = [1]) (hsd : d.scatterDimsToOperandDims = [1]) (hivd : d.indexVectorDim = 1)
    (idx : IVec (shape2 M 1) 32) (r' r : Fin R) (k : Fin M) (c : Fin C) :
    d.resultIdx? (ValueIdx.ix2 r' k) idx = some (ValueIdx.ix2 r c) ↔ r' = r ∧ (idx (ValueIdx.ix2 k (0 : Fin 1))).toInt = (c.val : Int) := by
  have hwin1 : d.window (ValueIdx.ix2 r' k) 1 = 0 := dif_neg fun h => by
    have := of_decide_eq_true (List.mem_filter.1 h).2
    rw [hiw] at this
    exact this (List.mem_singleton_self _)
  have hkept : d.sKept = [0] := by
    show (shape2 R C).kept d.insertedWindowDims = [0]
    rw [hiw]
    rfl
  have first : ∀ X ∈ d.updateWindowDims, (ValueIdx.ix2 r' k X).val = r'.val := fun X hX => by
    rw [huw] at hX
    rw [List.mem_singleton.1 hX]
    rfl
  have hwin0 : d.window (ValueIdx.ix2 r' k) 0 = r'.val := by
    unfold ScatterDims.window
    rw [dif_pos (by rw [hkept]; exact List.mem_singleton_self _)]
    exact first _ (List.getElem_mem _)
  have hstart0 : d.start (ValueIdx.ix2 r' k) idx 0 = 0 := dif_neg fun h => by
    rw [hsd] at h
    exact absurd (List.mem_singleton.1 h) (by decide : (0 : Fin 2) ≠ 1)
  have hstart1 : d.start (ValueIdx.ix2 r' k) idx 1 = (idx (ValueIdx.ix2 k (0 : Fin 1))).toInt :=
    (dif_pos (by rw [hsd]; exact List.mem_singleton_self _)).trans (congrArg (fun t => (idx t).toInt) (column_si d huw hsd hivd r' k _))
  rw [resultIdx?_ix2, hwin0, hwin1, hstart0, hstart1, Fin.ext_iff]
  omega

end Column

end Cert.Proof.Lands
-- ==== Proof.RefCount.lean ====
/-
  The integer stages of the reference, entry by entry: where of every pair of columns exactly one is masked, the column written at rank `k` is the
  masked one of pair `k`.
-/
module

public import proofs.«01_k».proof.Proof.RefStages
public import proofs.«01_k».proof.Proof.Pairs
public import proofs.«01_k».proof.Proof.Lands
public import Idealize.ShloMosaic.Lib.Routing.Words
public import Idealize.ShloMosaic.Lib.Routing.OpsSearch
public import Idealize.ShloMosaic.Lib.ReduceAll

@[expose] public section

noncomputable section

namespace Cert.Proof.Ref

open Cert.ReferenceIdeal Cert.ReferenceIdeal.Gen Idealize.ShloMosaic Idealize.ShloMosaic.Routing Idealize.ShloMosaic.ValueIdx
open Cert.Proof.Pairs Idealize.ShloMosaic.WordCmp

variable (msk : IVec S8192 1)

/-- A bit that is not one is zero. -/
theorem bit_zero {b : BitVec 1} (h : ¬ b = 1#1) : b = 0#1 := by
  revert h
  revert b
  decide

theorem select_zero {α : Type} (a b : α) : Scalar.select 0#1 a b = b := rfl
theorem select_one {α : Type} (a b : α) : Scalar.select 1#1 a b = a := rfl

/-- Column `j` is masked. -/
def Masked (j : Nat) : Prop := (if h : j < 8192 then msk (ix1 ⟨j, h⟩) else 0#1) = 1#1

instance : DecidablePred (Masked msk) := fun _ => inferInstanceAs (Decidable (_ = _))

theorem masked_iff (j : Fin 8192) : Masked msk j.val ↔ msk (ix1 j) = 1#1 := by
  unfold Masked
  rw [dif_pos j.isLt]

theorem wide_entry (i : Fin 8192) : extui 32 msk natLt_1_32 (ix1 i) = BitVec.ofNat 32 (if Masked msk i.val then 1 else 0) := by
  show (msk (ix1 i)).setWidth 32 = _
  by_cases h : msk (ix1 i) = 1#1
  · rw [if_pos ((masked_iff msk i).2 h), h]
    rfl
  · rw [if_neg fun q => h ((masked_iff msk i).1 q), bit_zero h]
    rfl

theorem zero_init : (broadcastInDim S_ ![] bcast_S_S_ (constantI S_ 32 0#32) : IVec S_ 32) ix0 = 0#32 := bc0 _ _ _

theorem slot_entry (j : Fin 8192) : slot msk (ix1 j) = BitVec.ofNat 32 (Nat.count (Masked msk) (j.val + 1)) := by
  unfold slot
  rw [cumsum1 (N := 8192) (Nm1 := 8191) rfl _ (fun i => if Masked msk i then 1 else 0) (wide_entry msk) _ zero_init _ _ j, sum_map_ite]

/-- A natural under 2^31 is no negative index. -/
theorem wrapped_entry {s : Shape} (hb : S_.BroadcastsInDim s (![] : Fin 0 → Fin s.rank)) (n : BitVec 32) (x : IVec s 32) (i : s.Idx) (h : (x i).toNat < 2 ^ 31) :
    wrapped hb n x i = x i := by
  show Scalar.select (IntOp.cmpi .slt (x i) (broadcastInDim s ![] hb (constantI S_ 32 0#32) i)) _ (x i) = x i
  rw [bc0]
  exact wrap_of_lt _ _ h

theorem ofNat_small {a b : Nat} (h : a ≤ b) (hb : b < 2 ^ 31) : (BitVec.ofNat 32 a).toNat < 2 ^ 31 := by
  rw [BitVec.toNat_ofNat]
  exact (Nat.mod_le _ _).trans_lt (by omega)

/-- A fold that adds one word at every hit counts the hits. -/
theorem foldl_adds {ι : Type} (q : ι → Prop) [DecidablePred q] (u : ι → BitVec 32) (hu : ∀ n, u n = 1#32) (l : List ι) (z : Nat) (v : BitVec 32)
    (hv : v = BitVec.ofNat 32 z) : l.foldl (fun a n => if q n then IntOp.addi a (u n) else a) v = BitVec.ofNat 32 (z + l.countP fun n => decide (q n)) := by
  induction l generalizing z v with
  | nil => exact hv
  | cons n l ih =>
    rw [List.foldl_cons, List.countP_cons]
    by_cases h : q n
    · rw [if_pos h, ih (z + 1) _ (by rw [hv, hu]; exact (BitVec.ofNat_add z 1).symm), if_pos (decide_eq_true h), Nat.add_right_comm, Nat.add_assoc z]
    · rw [if_neg h, ih z v hv, if_neg (fun e => h (of_decide_eq_true e)), Nat.add_zero]

theorem hits_entry (x : Fin 4096) : hits msk (ix1 x) = BitVec.ofNat 32 (Nat.count (fun j => Nat.count (Masked msk) (j + 1) = x.val) 8192) := by
  have hidx : ∀ i : Fin 8192, (broadcastInDim S8192x1 ![0] bcast_S8192_S8192x1_0 (wrapped bcast_S_S8192 4096#32 (slot msk)) : IVec S8192x1 32) (ValueIdx.ix2 i (0 : Fin 1))
      = BitVec.ofNat 32 (Nat.count (Masked msk) (i.val + 1)) := fun i => by
    rw [bcCol, wrapped_entry, slot_entry]
    rw [slot_entry]
    exact ofNat_small (Nat.count_le _) (by have := i.isLt; omega)
  have lands : ∀ i : Fin 8192, scatter_S4096_S8192x1_S8192_n_0_0_1.resultIdx? (ix1 i)
      (broadcastInDim S8192x1 ![0] bcast_S8192_S8192x1_0 (wrapped bcast_S_S8192 4096#32 (slot msk))) = some (ix1 x) ↔ Nat.count (Masked msk) (i.val + 1) = x.val := fun i => by
    have hle : Nat.count (Masked msk) (i.val + 1) ≤ i.val + 1 := Nat.count_le _
    have hi := i.isLt
    rw [Lands.entry_iff _ rfl rfl rfl, hidx, StableHlo.Predicate.toInt_ofNat_small _ (by omega)]
    omega
  unfold hits
  rw [scatter_at]
  refine (foldl_adds _ _ (fun n => bc0 _ _ _) _ 0 _ (bc0 _ _ _)).trans ?_
  rw [Nat.zero_add, ← numel1 8192, ← countP_finRange]
  refine congrArg (BitVec.ofNat 32) (List.countP_congr fun n _ => ?_)
  rw [decide_eq_true_iff, decide_eq_true_iff, symm1]
  exact lands _

theorem place_entry (k : Fin 4096) : place msk (ix1 k) = BitVec.ofNat 32 (Nat.count (fun j => Nat.count (Masked msk) (j + 1) ≤ k.val) 8192) := by
  unfold place
  rw [cumsum1 (N := 4096) (Nm1 := 4095) rfl _ (fun y => Nat.count (fun j => Nat.count (Masked msk) (j + 1) = y) 8192) (hits_entry msk) _ zero_init _ _ k, sum_count_eq]

variable (hP : OneOfPair (Masked msk))
include hP

theorem column_entry (k : Fin 4096) : column msk (ix1 k) = BitVec.ofNat 32 (pos (Masked msk) k.val) := by
  have hlt := pos_lt (P := Masked msk) k.val k.isLt
  have h1 : Routing.pyDiv bcast_S_S4096 (place msk) (id (constantI S_ 32 1#32)) (ix1 k) = BitVec.ofNat 32 (pos (Masked msk) k.val / 1) :=
    pyDiv_ap bcast_S_S4096 (place msk) (id (constantI S_ 32 1#32)) (ix1 k) (by rw [place_entry, count_le hP k.val k.isLt]) rfl (by omega) (by omega) (by omega)
  rw [Nat.div_one] at h1
  unfold column
  rw [pyRem_ap bcast_S_S4096 _ (id (constantI S_ 32 8192#32)) (ix1 k) h1 rfl (by omega) (by omega) (by omega), Nat.mod_eq_of_lt hlt]

theorem total_entry : total msk ix0 = 4096#32 := by
  unfold total
  rw [reduce_sum (N := 8192) _ (fun i => if Masked msk i then 1 else 0) (wide_entry msk), sum_map_ite, show 8192 = 2 * 4096 from rfl, count_pairs hP 4096 le_rfl]

theorem targets_entry (k : Fin 4096) : targets msk (ix1 k) = BitVec.ofNat 32 (pos (Masked msk) k.val) := by
  have hk := k.isLt
  have ht : (broadcastInDim S4096 ![0] bcast_S1_S4096_0 (broadcastInDim S1 ![] bcast_S_S1 (total msk)) : IVec S4096 32) (ix1 k) = 4096#32 := by
    refine (broadcastInDim_apply _ bcast_S1_S4096_0 _ _ (ix1 (0 : Fin 1)) fun a => ?_).trans ?_
    · match a with
      | ⟨0, _⟩ => rfl
    · exact (bc0 _ _ _).trans (total_entry msk hP)
  have hz : IntOp.cmpi .sge (BitVec.ofNat 32 k.val) 4096#32 = 0#1 := bit_zero fun h => by
    rw [IntOp.cmpi_sge, StableHlo.Predicate.toInt_ofNat_small k.val (by omega), show (4096#32 : BitVec 32).toInt = 4096 from by decide] at h
    omega
  have hi : iotaInDim S4096 32 0 (ix1 k) = BitVec.ofNat 32 k.val := iota1_ap k
  unfold targets
  rw [select_at, cmpi_at, hi, ht, hz, select_zero]
  exact column_entry msk hP k

end Cert.Proof.Ref

end
-- ==== Proof.RefValue.lean ====
/-
  The reference's result, entry by entry: in a masked column the parameter that the index word of the column's pair names, elsewhere the default.
-/
module

public import proofs.«01_k».proof.Proof.RefCount

@[expose] public section

noncomputable section

namespace Cert.Proof.Ref

open Cert.ReferenceIdeal Cert.ReferenceIdeal.Gen Idealize.ShloMosaic Idealize.ShloMosaic.Routing Idealize.ShloMosaic.ValueIdx
open Cert.Proof.Pairs Idealize.ShloMosaic.WordCmp

variable {F : FTy → Type} [FloatOps F]
variable (ids : IVec S4096 32) (params : FVec F S2048 .f32) (hids : ∀ k : Fin 4096, (ids (ix1 k)).toNat < 2048)

include hids in
theorem ids1_entry (k : Fin 4096) : ids1 ids (ValueIdx.ix2 k (0 : Fin 1)) = ids (ix1 k) := by
  unfold ids1
  rw [bcCol, wrapped_entry]
  exact (hids k).trans (by decide)

include hids in
theorem inside_entry (k : Fin 4096) : inside ids (ix1 k) = 1#1 := by
  unfold inside
  refine Host.reduce_andi_one _ _ _ _ _ rfl fun i => ?_
  have hi : i = ValueIdx.ix2 (i 0) (0 : Fin 1) := (eq_ix2 i).trans (congrArg (ValueIdx.ix2 (i 0)) (Subsingleton.elim (α := Fin 1) _ _))
  have hlt := hids (i 0)
  have h0 : ids1 ids i = ids (ix1 (i 0)) := (congrArg (ids1 ids) hi).trans (ids1_entry ids hids (i 0))
  have hint : (ids (ix1 (i 0))).toInt = ((ids (ix1 (i 0))).toNat : Int) := BitVec.toInt_eq_toNat_of_lt (by omega)
  refine IntOp.andi_eq_one.2 ⟨?_, ?_⟩
  · rw [cmpi_at, show (broadcastInDim S4096x1 ![] bcast_S_S4096x1 (constantI S_ 32 0#32) : IVec S4096x1 32) i = 0#32 from bc0 _ _ _, h0, IntOp.cmpi_sge, hint, show (0#32 : BitVec 32).toInt = 0 from by decide]
    omega
  · have hc : (broadcastInDim S4096x1 ![0, 1] bcast_S1x1_S4096x1_0_1 (broadcastInDim S1x1 ![1] bcast_S1_S1x1_1 (constantI S1 32 2047#32)) : IVec S4096x1 32) i = 2047#32 := by
      unfold broadcastInDim
      exact constantI_at _ _
    rw [cmpi_at, hc, h0, IntOp.cmpi_sle, hint, show (2047#32 : BitVec 32).toInt = 2047 from by decide]
    omega

theorem taken_entry (k : Fin 4096) : taken ids params (ix1 k) = params (ix1 ⟨(ids (ix1 k)).toNat, hids k⟩) := by
  have h := hids k
  unfold taken
  rw [select_at, inside_entry ids hids k, select_one]
  exact take_ap gather_S2048_S4096x1_S4096_n_0_n_n_0_1_1 rfl rfl rfl rfl params (ids1 ids) k h (by omega)
    ((ids1_entry ids hids k).trans (BitVec.ofNat_toNat 32 (ids (ix1 k))).symm)

variable (x : FVec F S8192x8192 .f32) (msk : IVec S8192 1) (hP : OneOfPair (Masked msk))

include hP in
/-- The updates of pair `k` land in the pair's masked column. -/
theorem lands (r' r : Fin 8192) (k : Fin 4096) (c : Fin 8192) :
    scatter_S8192x8192_S4096x1_S8192x4096_0_1_1_1.resultIdx? (ValueIdx.ix2 r' k)
        (broadcastInDim S4096x1 ![0] bcast_S4096_S4096x1_0 (wrapped bcast_S_S4096 8192#32 (targets msk))) = some (ValueIdx.ix2 r c)
      ↔ r' = r ∧ pos (Masked msk) k.val = c.val := by
  have hlt := pos_lt (P := Masked msk) k.val k.isLt
  have hidx : (broadcastInDim S4096x1 ![0] bcast_S4096_S4096x1_0 (wrapped bcast_S_S4096 8192#32 (targets msk)) : IVec S4096x1 32) (ValueIdx.ix2 k (0 : Fin 1))
      = BitVec.ofNat 32 (pos (Masked msk) k.val) := by
    rw [bcCol, wrapped_entry, targets_entry msk hP k]
    rw [targets_entry msk hP k]
    exact ofNat_small le_rfl (by omega)
  rw [Lands.column_iff _ rfl rfl rfl rfl, hidx, StableHlo.Predicate.toInt_ofNat_small _ (by omega)]
  omega

include hP in
theorem result_masked (r c : Fin 8192) (h : Masked msk c.val) :
    result x msk ids params (ValueIdx.ix2 r c) = params (ix1 ⟨(ids (ix1 ⟨c.val / 2, by omega⟩)).toNat, hids _⟩) := by
  have hc := c.isLt
  unfold result
  refine scatter_set_hit _ _ _ _ _ _ (fun u hu => ?_) (ValueIdx.ix2 r (⟨c.val / 2, by omega⟩ : Fin 4096)) ((lands msk hP _ _ _ _).2 ⟨rfl, pos_half hP c.val hc h⟩)
  obtain ⟨r', k, rfl⟩ : ∃ (r' : Fin 8192) (k : Fin 4096), u = ValueIdx.ix2 r' k := ⟨u 0, u 1, eq_ix2 u⟩
  obtain ⟨_, hk⟩ := (lands msk hP _ _ _ _).1 hu
  have hk2 : k = ⟨c.val / 2, by omega⟩ := Fin.ext (by have := half_pos (P := Masked msk) k.val; rw [hk] at this; exact this.symm)
  rw [bcCols, taken_entry ids params hids k, hk2]

include hP in
theorem result_other (r c : Fin 8192) (h : ¬ Masked msk c.val) : result x msk ids params (ValueIdx.ix2 r c) = x (ValueIdx.ix2 r c) := by
  unfold result
  refine scatter_set_miss _ _ _ _ _ fun u hu => h ?_
  obtain ⟨r', k, rfl⟩ : ∃ (r' : Fin 8192) (k : Fin 4096), u = ValueIdx.ix2 r' k := ⟨u 0, u 1, eq_ix2 u⟩
  rw [← ((lands msk hP _ _ _ _).1 hu).2]
  exact has_pos hP k.val k.isLt

end Cert.Proof.Ref

end
-- ==== Proof.Pre.lean ====
/-
  What the precondition says of the arguments: every index is under 2048, and of every two neighbouring columns exactly one is masked.
-/
module

public import proofs.«01_k».proof.Pre_in_range
public import Idealize.ShloMosaic.Lib.Routing.Ops
public import Idealize.ShloMosaic.Lib.ReduceAll

@[expose] public section

noncomputable section

namespace Cert.Proof.Pre

open Idealize.ShloMosaic Idealize.ShloMosaic.Routing Idealize.ShloMosaic.ValueIdx
open Cert.Pre_in_range

/-- The second column of a two-column array. -/
theorem slice_second {α : Type} {a : Nat} (x : (shape2 a 2).Idx → α) (h : (shape2 a 2).Slices ![0, 1] (shape2 a 1)) (i : Fin a) :
    extractStridedSlice (shape2 a 1) ![0, 1] x h (ValueIdx.ix2 i (0 : Fin 1)) = x (ValueIdx.ix2 i (1 : Fin 2)) := by
  unfold extractStridedSlice
  refine congrArg x (funext fun b => Fin.ext ?_)
  match b with
  | ⟨0, _⟩ => exact Nat.zero_add _
  | ⟨1, _⟩ => rfl

variable {F : FTy → Type} [FloatOps F] [hPre : Cert.Pre_in_range.Facts]

instance : Subsingleton S_.Idx := ⟨fun a b => funext fun i => i.elim0⟩

variable {x : FVec F S8192x8192 .f32} {msk : IVec S8192 1} {ids : IVec S4096 32} {p : FVec F S2048 .f32}

/-- The two tests of the precondition, entry by entry. -/
theorem tests (h : fn x msk ids p = fun _ => 1#1) (k : Fin 4096) :
    IntOp.andi (IntOp.cmpi .sge (ids (ix1 k)) 0#32) (IntOp.cmpi .slt (ids (ix1 k)) 2048#32) = 1#1
      ∧ IntOp.cmpi .ne (msk (ix1 ⟨2 * k.val, by omega⟩)) (msk (ix1 ⟨2 * k.val + 1, by omega⟩)) = 1#1 := by
  have h0 := congrFun h ix0
  obtain ⟨ha, hb⟩ := IntOp.andi_eq_one.1 h0
  have ha' := Host.reduce_andi_all _ _ _ _ _ ha (ix1 k)
  have hb' := Host.reduce_andi_all _ _ _ _ _ hb (ix1 k)
  refine ⟨ha', ?_⟩
  refine Eq.trans (congrArg₂ (IntOp.cmpi .ne) ?_ ?_) hb'
  · refine ((cast21 _ _ k (0 : Fin 1) k (by omega)).trans ((slice_col0 _ _ k (by omega)).trans (cast12 msk _ k ⟨0, _⟩ ⟨2 * k.val, by omega⟩ ?_))).symm
    show 2 * k.val = k.val * 2 + 0
    omega
  · refine ((cast21 _ _ k (0 : Fin 1) k (by omega)).trans ((slice_second _ _ k).trans (cast12 msk _ k (1 : Fin 2) ⟨2 * k.val + 1, by omega⟩ ?_))).symm
    show 2 * k.val + 1 = k.val * 2 + 1
    omega

theorem ids_lt (h : fn x msk ids p = fun _ => 1#1) (j : S4096.Idx) : (ids j).toNat < 2048 := by
  obtain ⟨h1, h2⟩ := IntOp.andi_eq_one.1 (tests h (j 0)).1
  rw [show (ix1 (j 0) : S4096.Idx) = j from (eq_ix1 j).symm] at h1 h2
  have hn : 2 * (ids j).toNat < 2 ^ 32 := (Scalar.nonneg_iff _).1 h1
  rw [IntOp.cmpi_slt, BitVec.toInt_eq_toNat_of_lt hn, show (2048#32 : BitVec 32).toInt = 2048 from by decide] at h2
  omega

theorem pair_ne (h : fn x msk ids p = fun _ => 1#1) (k : Fin 4096) :
    msk (ix1 ⟨2 * k.val, by omega⟩) ≠ msk (ix1 ⟨2 * k.val + 1, by omega⟩) :=
  IntOp.cmpi_ne.1 (tests h k).2

end Cert.Proof.Pre

end
-- ==== Proof.Agree.lean ====
/-
  The program's result array is the reference's, for arguments in the precondition.
-/
module

public import proofs.«01_k».proof.Proof.Region
public import proofs.«01_k».proof.Proof.Values
public import proofs.«01_k».proof.Proof.RefValue
public import proofs.«01_k».proof.Proof.Pre

@[expose] public section

noncomputable section

namespace Cert.Proof.Agree

open Idealize.ShloMosaic Idealize.ShloMosaic.Routing Idealize.ShloMosaic.ValueIdx
open Cert.KernelIdeal Cert.Proof.Pairs Cert.Proof.Ref Cert.Proof.Run

variable {F : FTy → Type} [FloatOps F]
variable (x : S8192x8192.Idx → Elt F .f32) (msk : S8192.Idx → BitVec 1) (ids : S4096.Idx → BitVec 32) (params : S2048.Idx → Elt F .f32)

/-- One entry of the row that the program writes. -/
theorem spread_entry (hids : ∀ k : Fin 4096, (ids (ValueIdx.ix1 k)).toNat < 2048) (c : Fin 8192) :
    Values.spread params ids (ValueIdx.ix1 c) = params (ValueIdx.ix1 ⟨(ids (ValueIdx.ix1 ⟨c.val / 2, by omega⟩)).toNat, hids _⟩) := by
  unfold Values.spread
  exact congrArg (fun q : Fin 2048 => params (ValueIdx.ix1 q)) (Fin.ext (Nat.mod_eq_of_lt (hids ⟨c.val / 2, by omega⟩)))

theorem agree (hids : ∀ k : Fin 4096, (ids (ValueIdx.ix1 k)).toNat < 2048) (hP : OneOfPair (Masked msk)) (h1 : S8192.ShapeCasts S1x8192) (h2 : S8192.ShapeCasts S1x8192) (hw : 1 < 32) :
    merged (F := F) (shapeCast S1x8192 (Values.spread params ids) h1) (shapeCast S1x8192 (extui 32 msk hw) h2) x = Ref.result (F := F) x msk ids params := by
  funext j
  obtain ⟨r, c, rfl⟩ : ∃ (r c : Fin 8192), j = ValueIdx.ix2 r c := ⟨j 0, j 1, ValueIdx.eq_ix2 j⟩
  have hrow : shapeCast S1x8192 (Values.spread params ids) h1 (col c) = Values.spread params ids (ValueIdx.ix1 c) := cast12 _ h1 (0 : Fin 1) c c (by show c.val = 0 * 8192 + c.val; omega)
  have hmask : shapeCast S1x8192 (extui 32 msk hw) h2 (col c) = extui 32 msk hw (ValueIdx.ix1 c) := cast12 _ h2 (0 : Fin 1) c c (by show c.val = 0 * 8192 + c.val; omega)
  show pick (shapeCast S1x8192 (extui 32 msk hw) h2 (col c)) (x (ValueIdx.ix2 r c)) (shapeCast S1x8192 (Values.spread params ids) h1 (col c)) = _
  rw [hrow, hmask, spread_entry ids params hids c]
  have hwide := wide_entry msk c
  by_cases h : Masked msk c.val
  · rw [if_pos h] at hwide
    rw [show extui 32 msk hw (ValueIdx.ix1 c) = 1#32 from hwide, result_masked ids params hids x msk hP r c h]
    exact if_neg (by decide)
  · rw [if_neg h] at hwide
    rw [show extui 32 msk hw (ValueIdx.ix1 c) = 0#32 from hwide, result_other ids params x msk hP r c h]
    exact if_pos rfl

/-- The precondition's second half: one column of every pair is masked. -/
theorem one_of_pair [Cert.Pre_in_range.Facts] (h : Cert.Pre_in_range.fn (F := F) x msk ids params = fun _ => 1#1) : OneOfPair (Masked msk) := fun k hk => by
  have hne := Pre.pair_ne h ⟨k, hk⟩
  rw [masked_iff msk ⟨2 * k, by omega⟩, masked_iff msk ⟨2 * k + 1, by omega⟩]
  constructor
  · intro h0 h1
    exact hne (h0.trans h1.symm)
  · intro h1
    by_contra h0
    exact hne ((bit_zero h0).trans (bit_zero h1).symm)

end Cert.Proof.Agree

end
-- ==== Proof.Claims.lean ====
/-
  The claims, one theorem each.
-/
module

public import proofs.«01_k».proof.Defs
public import proofs.«01_k».proof.Proof.Launch
public import proofs.«01_k».proof.Proof.Agree
public import proofs.«01_k».proof.Proof.Gen.Kernel.Skeleton
public import proofs.«01_k».proof.Proof.Gen.Pre_in_range

@[expose] public section

noncomputable section

namespace Cert.Proof.Run

open Idealize.ShloMosaic
open Idealize.ShloMosaic.TcCoe
open Idealize.SL.Sem

variable {F : FTy → Type} [FloatOps F]

/-- The two prints of the program are one term. -/
theorem defs₀_eq : (Cert.Kernel.defs₀ (F := F)) = Cert.KernelIdeal.defs₀ := by
  funext k l a
  match k, l, a with
  | .tc, 0, _ => rfl
  | .tc, 1, (_, _) => rfl
  | .scScalar _, 0, _ => rfl
  | .scScalar _, 1, _ => rfl
  | .scVector _ _, 0, _ => rfl
  | .scVector _ _, 1, _ => rfl

theorem defs_eq : (Cert.Kernel.defs (F := F)) = Cert.KernelIdeal.defs :=
  congrArg (fun D => Cert.KernelIdeal.sc.defs (Pipeline.defs Cert.KernelIdeal.pcfgs D)) defs₀_eq
theorem threads_eq : (Cert.Kernel.threads (F := F)) = Cert.KernelIdeal.threads := rfl

/-- The four arguments unchanged and every counter back at zero. -/
theorem frame [∀ e, Nonempty (Elt F e)] (m : (ℓ : Loc Cert.KernelIdeal.nD Cert.KernelIdeal.τ Cert.KernelIdeal.sig) → Buf (Elt F) ℓ) (ρ : Dev Cert.KernelIdeal.nD → PrngReg)
    (h : ∀ d, Cert.Pre_in_range.fn (F := F) (m (d, a0')) (m (d, a1')) (m (d, a2')) (m (d, a3')) = fun _ => 1#1) :
    θ_run (Cert.KernelIdeal.defs (F := F)) (Cert.KernelIdeal.threads (F := F)) ⟨m, fun _ => 0, ρ⟩ (fun r => (∀ d : Dev Cert.KernelIdeal.nD,
      r.2.mem (d, a0') = m (d, a0') ∧ r.2.mem (d, a1') = m (d, a1') ∧ r.2.mem (d, a2') = m (d, a2') ∧ r.2.mem (d, a3') = m (d, a3')) ∧ r.2.sem = fun _ => 0) :=
  (θ_run Cert.KernelIdeal.defs _ _).mono (fun _ hr => ⟨fun d => ⟨(hr.1 d).1, (hr.1 d).2.1, (hr.1 d).2.2.1, (hr.1 d).2.2.2.1⟩, hr.2⟩)
    (run_main m ρ fun d j => Pre.ids_lt (h d) j)

theorem frame_Kernel : Cert.quiescent_Kernel := by
  intro m g h
  have hr := frame (F := Bits) m g h
  rw [← defs_eq, ← threads_eq] at hr
  exact hr

theorem frame_KernelIdeal : Cert.quiescent_KernelIdeal := fun m g h => frame (F := Ideal) m g h

theorem frame_ReferenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_ReferenceIdeal_pre : Cert.quiescent_ReferenceIdeal_pre_in_range := fun m ρ _ => frame_ReferenceIdeal m ρ trivial

theorem algebraic : Cert.algebraic_KernelIdeal_ReferenceIdeal := by
  intro m g m' g' h hagree
  refine ⟨fun d => outVal m d, ?_, ?_⟩
  · exact (θ_run Cert.KernelIdeal.defs _ _).mono (fun _ hr d => ⟨(hr.1 d).2.2.2.2, (hr.1 d).1, (hr.1 d).2.1, (hr.1 d).2.2.1, (hr.1 d).2.2.2.1⟩)
      (run_main (F := Ideal) m g fun d j => Pre.ids_lt (h d) j)
  · refine (θ_run Cert.ReferenceIdeal.defs _ _).mono (fun r hr d => ⟨(hr d).1.trans ?_, (hr d).2⟩) (Cert.ReferenceIdeal.Value.run (F := Ideal) m' g')
    obtain ⟨e0, e1, e2, e3⟩ := hagree d
    rw [Ref.res_eq m' d, e0, e1, e2, e3]
    exact (Agree.agree (F := Ideal) _ _ _ _ (fun k => Pre.ids_lt (h d) (ValueIdx.ix1 k)) (Agree.one_of_pair _ _ _ _ (h d)) _ _ _).symm

end Cert.Proof.Run

end
-- ==== Proof.lean ====
/-
  The certificate: the two frames of the program, the two of the reference, the (empty) list of rewrites, and the equality of the two results over
  the extended reals. Each is a theorem of `Proof/Claims.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Run.frame_Kernel, Run.frame_KernelIdeal, Run.frame_ReferenceIdeal, Run.frame_ReferenceIdeal_pre, trivial, Run.algebraic⟩

end Cert.Proof

end
